-- ==== Defs.lean ====
def Pre_Kernel [hPre_indices_in_range : Cert.Pre_indices_in_range.Facts] (m : (ℓ : Loc Cert.Kernel.nD Cert.Kernel.τ Cert.Kernel.sig) → Buf (Elt Bits) ℓ) : Prop :=
  ∀ c : Dev Cert.Kernel.nD,
    (Cert.Pre_indices_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_indices_in_range : Cert.Pre_indices_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_indices_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_indices_in_range [hPre_indices_in_range : Cert.Pre_indices_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_indices_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def quiescent_Kernel [hKernel : Cert.Kernel.Facts] [hPre_indices_in_range : Cert.Pre_indices_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))
      ∧ r.2.sem = fun _ => 0)

def quiescent_KernelIdeal [hKernelIdeal : Cert.KernelIdeal.Facts] [hPre_indices_in_range : Cert.Pre_indices_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def quiescent_ReferenceIdeal_pre_indices_in_range [hReferenceIdeal : Cert.ReferenceIdeal.Facts] [hPre_indices_in_range : Cert.Pre_indices_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_indices_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_indices_in_range : Cert.Pre_indices_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_indices_in_range : Cert.Pre_indices_in_range.Facts),
    quiescent_Kernel (hKernel := hKernel) (hPre_indices_in_range := hPre_indices_in_range)
    ∧ quiescent_KernelIdeal (hKernelIdeal := hKernelIdeal) (hPre_indices_in_range := hPre_indices_in_range)
    ∧ quiescent_ReferenceIdeal (hReferenceIdeal := hReferenceIdeal)
    ∧ quiescent_ReferenceIdeal_pre_indices_in_range (hReferenceIdeal := hReferenceIdeal) (hPre_indices_in_range := hPre_indices_in_range)
    ∧ preserves_Kernel_KernelIdeal
    ∧ algebraic_KernelIdeal_ReferenceIdeal (hKernelIdeal := hKernelIdeal) (hReferenceIdeal := hReferenceIdeal) (hPre_indices_in_range := hPre_indices_in_range)
-- ==== Pre_indices_in_range.lean ====
abbrev S16384 : Shape := ⟨1, ![16384]⟩
abbrev S1000000x128 : Shape := ⟨2, ![1000000, 128]⟩
abbrev S100x128 : Shape := ⟨2, ![100, 128]⟩
abbrev S1x128 : Shape := ⟨2, ![1, 128]⟩
abbrev S128 : Shape := ⟨1, ![128]⟩
abbrev S128x128 : Shape := ⟨2, ![128, 128]⟩
abbrev S384x512 : Shape := ⟨2, ![384, 512]⟩
abbrev S512 : Shape := ⟨1, ![512]⟩
abbrev S512x2000 : Shape := ⟨2, ![512, 2000]⟩
abbrev S2000 : Shape := ⟨1, ![2000]⟩
abbrev S_ : Shape := ⟨0, ![]⟩

class Facts : Prop where
  bcast_S_S16384 : S_.BroadcastsInDim S16384 (![] : Fin 0 → Fin S16384.rank)

variable [Facts]

def fn {F : FTy → Type} [FloatOps F] (main_arg0 : IVec S16384 32) (main_arg1 : FVec F S16384 .f32) (main_arg2 : IVec S16384 32) (main_arg3 : FVec F S1000000x128 .f32) (main_arg4 : FVec F S100x128 .f32) (main_arg5 : FVec F S1x128 .f32) (main_arg6 : FVec F S128 .f32) (main_arg7 : FVec F S128x128 .f32) (main_arg8 : FVec F S128 .f32) (main_arg9 : FVec F S384x512 .f32) (main_arg10 : FVec F S512 .f32) (main_arg11 : FVec F S512x2000 .f32) (main_arg12 : FVec F S2000 .f32) : IVec S16384 1 :=
  let main_c : IVec S_ 32 := constantI S_ 32 0#32
  let main_v0 : IVec S16384 32 := broadcastInDim S16384 ![] bcast_S_S16384 main_c
  let main_v1 : IVec S16384 1 := cmpi .sge main_arg0 main_v0
  let main_c_0 : IVec S_ 32 := constantI S_ 32 1000000#32
  let main_v2 : IVec S16384 32 := broadcastInDim S16384 ![] bcast_S_S16384 main_c_0
  let main_v3 : IVec S16384 1 := cmpi .slt main_arg0 main_v2
  let main_v4 : IVec S16384 1 := andi main_v1 main_v3
  let main_c_1 : IVec S_ 32 := constantI S_ 32 0#32
  let main_v5 : IVec S16384 32 := broadcastInDim S16384 ![] bcast_S_S16384 main_c_1
  let main_v6 : IVec S16384 1 := cmpi .sge main_arg2 main_v5
  let main_v7 : IVec S16384 1 := andi main_v4 main_v6
  let main_c_2 : IVec S_ 32 := constantI S_ 32 100#32
  let main_v8 : IVec S16384 32 := broadcastInDim S16384 ![] bcast_S_S16384 main_c_2
  let main_v9 : IVec S16384 1 := cmpi .slt main_arg2 main_v8
  let main_v10 : IVec S16384 1 := andi main_v7 main_v9
  main_v10
-- ==== Kernel.lean ====
abbrev S16384 : Shape := ⟨1, ![16384]⟩
abbrev S1000000x128 : Shape := ⟨2, ![1000000, 128]⟩
abbrev S100x128 : Shape := ⟨2, ![100, 128]⟩
abbrev S1x128 : Shape := ⟨2, ![1, 128]⟩
abbrev S128 : Shape := ⟨1, ![128]⟩
abbrev S128x128 : Shape := ⟨2, ![128, 128]⟩
abbrev S384x512 : Shape := ⟨2, ![384, 512]⟩
abbrev S512 : Shape := ⟨1, ![512]⟩
abbrev S512x2000 : Shape := ⟨2, ![512, 2000]⟩
abbrev S2000 : Shape := ⟨1, ![2000]⟩
abbrev S1x16384 : Shape := ⟨2, ![1, 16384]⟩
abbrev S16384x128 : Shape := ⟨2, ![16384, 128]⟩
abbrev S2x1x128 : Shape := ⟨3, ![2, 1, 128]⟩
abbrev S2 : Shape := ⟨1, ![2]⟩
abbrev S2x128x128 : Shape := ⟨3, ![2, 128, 128]⟩
abbrev S1x1x128 : Shape := ⟨3, ![1, 1, 128]⟩
abbrev S1 : Shape := ⟨1, ![1]⟩
abbrev S_ : Shape := ⟨0, ![]⟩
abbrev S1x128x128 : Shape := ⟨3, ![1, 128, 128]⟩
abbrev S16384x1 : Shape := ⟨2, ![16384, 1]⟩
abbrev S1x512 : Shape := ⟨2, ![1, 512]⟩
abbrev S1x2000 : Shape := ⟨2, ![1, 2000]⟩
abbrev S16384x2000 : Shape := ⟨2, ![16384, 2000]⟩
abbrev S1024x128 : Shape := ⟨2, ![1024, 128]⟩
abbrev S1024x1 : Shape := ⟨2, ![1024, 1]⟩
abbrev S1024x2000 : Shape := ⟨2, ![1024, 2000]⟩
abbrev S128x512 : Shape := ⟨2, ![128, 512]⟩
abbrev S1024x512 : Shape := ⟨2, ![1024, 512]⟩

abbrev nBuf : Table → Nat
  | .hbm => 31
  | .local .tc .vmem => 17
  | .local .scVector .vmem => 2
  | _ => 0

abbrev bufTy : (tb : Table) → Fin (nBuf tb) → BufTy
  | .hbm, ⟨0, _⟩ => ⟨S16384, .i32⟩
  | .hbm, ⟨1, _⟩ => ⟨S16384, .f32⟩
  | .hbm, ⟨2, _⟩ => ⟨S16384, .i32⟩
  | .hbm, ⟨3, _⟩ => ⟨S1000000x128, .f32⟩
  | .hbm, ⟨4, _⟩ => ⟨S100x128, .f32⟩
  | .hbm, ⟨5, _⟩ => ⟨S1x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S384x512, .f32⟩
  | .hbm, ⟨10, _⟩ => ⟨S512, .f32⟩
  | .hbm, ⟨11, _⟩ => ⟨S512x2000, .f32⟩
  | .hbm, ⟨12, _⟩ => ⟨S2000, .f32⟩
  | .hbm, ⟨13, _⟩ => ⟨S1x16384, .i32⟩
  | .hbm, ⟨14, _⟩ => ⟨S16384x128, .f32⟩
  | .hbm, ⟨15, _⟩ => ⟨S_, .bf16⟩
  | .hbm, ⟨16, _⟩ => ⟨S128x128, .bf16⟩
  | .hbm, ⟨17, _⟩ => ⟨S100x128, .bf16⟩
  | .hbm, ⟨18, _⟩ => ⟨S_, .i32⟩
  | .hbm, ⟨19, _⟩ => ⟨S1, .i32⟩
  | .hbm, ⟨20, _⟩ => ⟨S128x128, .bf16⟩
  | .hbm, ⟨21, _⟩ => ⟨S128x128, .bf16⟩
  | .hbm, ⟨22, _⟩ => ⟨S384x512, .bf16⟩
  | .hbm, ⟨23, _⟩ => ⟨S512x2000, .bf16⟩
  | .hbm, ⟨24, _⟩ => ⟨S16384x1, .f32⟩
  | .hbm, ⟨25, _⟩ => ⟨S16384x1, .i32⟩
  | .hbm, ⟨26, _⟩ => ⟨S1x128, .f32⟩
  | .hbm, ⟨27, _⟩ => ⟨S1x128, .f32⟩
  | .hbm, ⟨28, _⟩ => ⟨S1x512, .f32⟩
  | .hbm, ⟨29, _⟩ => ⟨S1x2000, .f32⟩
  | .hbm, ⟨30, _⟩ => ⟨S16384x2000, .f32⟩
  | .local .tc .vmem, ⟨0, _⟩ => ⟨S1024x128, .f32⟩
  | .local .tc .vmem, ⟨1, _⟩ => ⟨S1024x128, .f32⟩
  | .local .tc .vmem, ⟨2, _⟩ => ⟨S1024x1, .f32⟩
  | .local .tc .vmem, ⟨3, _⟩ => ⟨S1024x1, .f32⟩
  | .local .tc .vmem, ⟨4, _⟩ => ⟨S1024x1, .i32⟩
  | .local .tc .vmem, ⟨5, _⟩ => ⟨S1024x1, .i32⟩
  | .local .tc .vmem, ⟨6, _⟩ => ⟨S1x128, .f32⟩
  | .local .tc .vmem, ⟨7, _⟩ => ⟨S1x128, .f32⟩
  | .local .tc .vmem, ⟨8, _⟩ => ⟨S128x128, .bf16⟩
  | .local .tc .vmem, ⟨9, _⟩ => ⟨S1x128, .f32⟩
  | .local .tc .vmem, ⟨10, _⟩ => ⟨S384x512, .bf16⟩
  | .local .tc .vmem, ⟨11, _⟩ => ⟨S1x512, .f32⟩
  | .local .tc .vmem, ⟨12, _⟩ => ⟨S512x2000, .bf16⟩
  | .local .tc .vmem, ⟨13, _⟩ => ⟨S1x2000, .f32⟩
  | .local .tc .vmem, ⟨14, _⟩ => ⟨S128x128, .bf16⟩
  | .local .tc .vmem, ⟨15, _⟩ => ⟨S1024x2000, .f32⟩
  | .local .tc .vmem, ⟨16, _⟩ => ⟨S1024x2000, .f32⟩
  | .local .scVector .vmem, ⟨0, _⟩ => ⟨S2x1x128, .i32⟩
  | .local .scVector .vmem, ⟨1, _⟩ => ⟨S2x128x128, .f32⟩
  | _, _ => ⟨S16384, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 22 → Bool
  | ⟨0, _⟩ => false
  | ⟨1, _⟩ => false
  | ⟨2, _⟩ => false
  | ⟨3, _⟩ => false
  | ⟨4, _⟩ => false
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTables nBuf rfl bufTy 4 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_cst : Ref sig .tc := ⟨.hbm, 15, rfl⟩
abbrev main_v2 : Ref sig .tc := ⟨.hbm, 16, rfl⟩
abbrev main_v3 : Ref sig .tc := ⟨.hbm, 17, rfl⟩
abbrev main_c : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_arg3_scv : Ref sig .scVector := ⟨.hbm, 3, rfl⟩
abbrev main_v0_scv : Ref sig .scVector := ⟨.hbm, 13, rfl⟩
abbrev main_v1_scv : Ref sig .scVector := ⟨.hbm, 14, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc1_stg2_0 : Ref sig .tc := ⟨.vmem, 4, rfl⟩
abbrev cc1_stg2_1 : Ref sig .tc := ⟨.vmem, 5, rfl⟩
abbrev cc1_stg3_0 : Ref sig .tc := ⟨.vmem, 6, rfl⟩
abbrev cc1_stg4_0 : Ref sig .tc := ⟨.vmem, 7, rfl⟩
abbrev cc1_stg5_0 : Ref sig .tc := ⟨.vmem, 8, rfl⟩
abbrev cc1_stg6_0 : Ref sig .tc := ⟨.vmem, 9, rfl⟩
abbrev cc1_stg7_0 : Ref sig .tc := ⟨.vmem, 10, rfl⟩
abbrev cc1_stg8_0 : Ref sig .tc := ⟨.vmem, 11, rfl⟩
abbrev cc1_stg9_0 : Ref sig .tc := ⟨.vmem, 12, rfl⟩
abbrev cc1_stg10_0 : Ref sig .tc := ⟨.vmem, 13, rfl⟩
abbrev cc1_stg11_0 : Ref sig .tc := ⟨.vmem, 14, rfl⟩
abbrev cc1_stg12_0 : Ref sig .tc := ⟨.vmem, 15, rfl⟩
abbrev cc1_stg12_1 : Ref sig .tc := ⟨.vmem, 16, rfl⟩
abbrev cc0_scoped0 : Ref sig .scVector := ⟨.vmem, 0, rfl⟩
abbrev cc0_scoped2 : Ref sig .scVector := ⟨.vmem, 1, rfl⟩
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem5_0 : DmaSem sig := 13
abbrev cc1_sem6_0 : DmaSem sig := 14
abbrev cc1_sem7_0 : DmaSem sig := 15
abbrev cc1_sem8_0 : DmaSem sig := 16
abbrev cc1_sem9_0 : DmaSem sig := 17
abbrev cc1_sem10_0 : DmaSem sig := 18
abbrev cc1_sem11_0 : DmaSem sig := 19
abbrev cc1_sem12_0 : DmaSem sig := 20
abbrev cc1_sem12_1 : DmaSem sig := 21
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 : Fin 3 → Nat :=
  let c0_i32_11_r0 : BitVec 32 := 0#32
  let c2_i32_r0 : BitVec 32 := 2#32
  let v17_r0 : BitVec 32 := Scalar.remui c0_i32_11_r0 c2_i32_r0
  let c0_i32_12_r0 : BitVec 32 := 0#32
  let c0_i32_13_r0 : BitVec 32 := 0#32
  ![v17_r0.toNat, 0, 0]
def k0_off2 (i : grid0.Coords) : Fin 2 → Nat :=
  let c0_i32_14_r0 : BitVec 32 := 0#32
  let c128_i32_r0 : BitVec 32 := 128#32
  let c0_i32_r0 : BitVec 32 := 0#32
  let arg1 : BitVec 32 := BitVec.ofNat 32 (i 1).val
  let c8_i32 : BitVec 32 := 8#32
  let v0 : BitVec 32 := Scalar.muli arg1 c8_i32
  let v3_r0 : BitVec 32 := Scalar.addi c0_i32_r0 v0
  let v18_r0 : BitVec 32 := Scalar.muli c128_i32_r0 v3_r0
  ![0, v18_r0.toNat]
def k0_off3 : Fin 1 → Nat :=
  let c0_i32_11_r0 : BitVec 32 := 0#32
  let c2_i32_r0 : BitVec 32 := 2#32
  let v17_r0 : BitVec 32 := Scalar.remui c0_i32_11_r0 c2_i32_r0
  ![v17_r0.toNat]
@[reducible] def k0_t1_loop : Scf.Loop 32 :=
  let c0_i32_24_r0 : BitVec 32 := 0#32
  let c8_i32_25_r0 : BitVec 32 := 8#32
  let v28_r0 : BitVec 32 := Scalar.addi c0_i32_24_r0 c8_i32_25_r0
  let c1_i32_26_r0 : BitVec 32 := 1#32
  ⟨c0_i32_24_r0, v28_r0, c1_i32_26_r0⟩
def k0_off4 (arg6_r0 : BitVec 32) : Fin 3 → Nat :=
  let c2_i32_97_r0 : BitVec 32 := 2#32
  let v140_r0 : BitVec 32 := Scalar.remui arg6_r0 c2_i32_97_r0
  let c0_i32_99_r0 : BitVec 32 := 0#32
  let c0_i32_100_r0 : BitVec 32 := 0#32
  ![v140_r0.toNat, 0, 0]
def k0_cond1 (i : grid0.Coords) (k0_t1 : Fin k0_t1_loop.trips) (arg10_r0 : BitVec 32) : BitVec 1 :=
  let arg1 : BitVec 32 := BitVec.ofNat 32 (i 1).val
  let c8_i32 : BitVec 32 := 8#32
  let v0 : BitVec 32 := Scalar.muli arg1 c8_i32
  let v62_r0 : BitVec 32 := Scalar.addi arg10_r0 v0
  let true_59_r0 : BitVec 1 := 1#1
  let c1_i32_58_r0 : BitVec 32 := 1#32
  let v68_r0 : BitVec 32 := Scalar.addi arg10_r0 c1_i32_58_r0
  let v69_r0 : BitVec 32 := Scalar.select true_59_r0 v68_r0 arg10_r0
  let c8_i32_60_r0 : BitVec 32 := 8#32
  let v70_r0 : BitVec 1 := Scalar.cmpi .eq v69_r0 c8_i32_60_r0
  let c0_i32_61_r0 : BitVec 32 := 0#32
  let v71_r0 : BitVec 32 := Scalar.select v70_r0 c0_i32_61_r0 v69_r0
  let v72_r0 : BitVec 32 := Scalar.addi v71_r0 v0
  let v78_r0 : BitVec 1 := Scalar.cmpi .ne v62_r0 v72_r0
  let c0_i32_24_r0 : BitVec 32 := 0#32
  let c1_i32_26_r0 : BitVec 32 := 1#32
  let arg5_r0 : BitVec 32 := Scf.iv c0_i32_24_r0 c1_i32_26_r0 k0_t1
  let c7_i32_66_r0 : BitVec 32 := 7#32
  let v79_r0 : BitVec 1 := Scalar.cmpi .sge arg5_r0 c7_i32_66_r0
  let true_67_r0 : BitVec 1 := 1#1
  let v80_r0 : BitVec 1 := Scalar.xori v79_r0 true_67_r0
  let v81_r0 : BitVec 1 := Scalar.andi v78_r0 v80_r0
  let true_68_r0 : BitVec 1 := 1#1
  let v82_r0 : BitVec 1 := Scalar.andi v81_r0 true_68_r0
  let v83_r0 : BitVec 32 := Scalar.extui v82_r0
  let c0_i32_69_r0 : BitVec 32 := 0#32
  let v84_r0 : BitVec 1 := Scalar.cmpi .ne v83_r0 c0_i32_69_r0
  v84_r0

def k0_off5 (i : grid0.Coords) (arg10_r0 : BitVec 32) : Fin 2 → Nat :=
  let c0_i32_101_r0 : BitVec 32 := 0#32
  let c128_i32_98_r0 : BitVec 32 := 128#32
  let true_59_r0 : BitVec 1 := 1#1
  let c1_i32_58_r0 : BitVec 32 := 1#32
  let v68_r0 : BitVec 32 := Scalar.addi arg10_r0 c1_i32_58_r0
  let v69_r0 : BitVec 32 := Scalar.select true_59_r0 v68_r0 arg10_r0
  let c8_i32_60_r0 : BitVec 32 := 8#32
  let v70_r0 : BitVec 1 := Scalar.cmpi .eq v69_r0 c8_i32_60_r0
  let c0_i32_61_r0 : BitVec 32 := 0#32
  let v71_r0 : BitVec 32 := Scalar.select v70_r0 c0_i32_61_r0 v69_r0
  let arg1 : BitVec 32 := BitVec.ofNat 32 (i 1).val
  let c8_i32 : BitVec 32 := 8#32
  let v0 : BitVec 32 := Scalar.muli arg1 c8_i32
  let v72_r0 : BitVec 32 := Scalar.addi v71_r0 v0
  let v141_r0 : BitVec 32 := Scalar.muli c128_i32_98_r0 v72_r0
  ![0, v141_r0.toNat]
def k0_off6 (arg6_r0 : BitVec 32) : Fin 1 → Nat :=
  let c2_i32_97_r0 : BitVec 32 := 2#32
  let v140_r0 : BitVec 32 := Scalar.remui arg6_r0 c2_i32_97_r0
  ![v140_r0.toNat]
def k0_off7 (arg7_r0 : BitVec 32) : Fin 3 → Nat :=
  let c2_i32_98_r0 : BitVec 32 := 2#32
  let v141_r0 : BitVec 32 := Scalar.remui arg7_r0 c2_i32_98_r0
  let c0_i32_99_r0 : BitVec 32 := 0#32
  let c0_i32_100_r0 : BitVec 32 := 0#32
  ![v141_r0.toNat, 0, 0]
def k0_cond2 (i : grid0.Coords) (k0_t1 : Fin k0_t1_loop.trips) (arg10_r0 : BitVec 32) : BitVec 1 :=
  let arg1 : BitVec 32 := BitVec.ofNat 32 (i 1).val
  let c8_i32 : BitVec 32 := 8#32
  let v0 : BitVec 32 := Scalar.muli arg1 c8_i32
  let v62_r0 : BitVec 32 := Scalar.addi arg10_r0 v0
  let true_55_r0 : BitVec 1 := 1#1
  let c1_i32_54_r0 : BitVec 32 := 1#32
  let v63_r0 : BitVec 32 := Scalar.subi arg10_r0 c1_i32_54_r0
  let v64_r0 : BitVec 32 := Scalar.select true_55_r0 v63_r0 arg10_r0
  let c_m1_i32_56_r0 : BitVec 32 := 4294967295#32
  let v65_r0 : BitVec 1 := Scalar.cmpi .eq v64_r0 c_m1_i32_56_r0
  let c7_i32_57_r0 : BitVec 32 := 7#32
  let v66_r0 : BitVec 32 := Scalar.select v65_r0 c7_i32_57_r0 v64_r0
  let v67_r0 : BitVec 32 := Scalar.addi v66_r0 v0
  let v92_r0 : BitVec 1 := Scalar.cmpi .ne v62_r0 v67_r0
  let c0_i32_24_r0 : BitVec 32 := 0#32
  let c1_i32_26_r0 : BitVec 32 := 1#32
  let arg5_r0 : BitVec 32 := Scf.iv c0_i32_24_r0 c1_i32_26_r0 k0_t1
  let c0_i32_52_r0 : BitVec 32 := 0#32
  let v60_r0 : BitVec 1 := Scalar.cmpi .eq arg5_r0 c0_i32_52_r0
  let v93_r0 : BitVec 1 := Scalar.ori v92_r0 v60_r0
  let c0_i32_74_r0 : BitVec 32 := 0#32
  let v94_r0 : BitVec 1 := Scalar.cmpi .sge arg5_r0 c0_i32_74_r0
  let v95_r0 : BitVec 1 := Scalar.andi v93_r0 v94_r0
  let v96_r0 : BitVec 32 := Scalar.extui v95_r0
  let c0_i32_75_r0 : BitVec 32 := 0#32
  let v97_r0 : BitVec 1 := Scalar.cmpi .ne v96_r0 c0_i32_75_r0
  v97_r0

def k0_off8 (i : grid0.Coords) (arg10_r0 : BitVec 32) : Fin 2 → Nat :=
  let c0_i32_101_r0 : BitVec 32 := 0#32
  let c128_i32_97_r0 : BitVec 32 := 128#32
  let arg1 : BitVec 32 := BitVec.ofNat 32 (i 1).val
  let c8_i32 : BitVec 32 := 8#32
  let v0 : BitVec 32 := Scalar.muli arg1 c8_i32
  let v62_r0 : BitVec 32 := Scalar.addi arg10_r0 v0
  let v140_r0 : BitVec 32 := Scalar.muli c128_i32_97_r0 v62_r0
  ![0, v140_r0.toNat]
def k0_off9 (arg7_r0 : BitVec 32) : Fin 1 → Nat :=
  let c2_i32_98_r0 : BitVec 32 := 2#32
  let v141_r0 : BitVec 32 := Scalar.remui arg7_r0 c2_i32_98_r0
  ![v141_r0.toNat]
def k0_off10 (arg8_r0 : BitVec 32) : Fin 3 → Nat :=
  let c2_i32_79_r0 : BitVec 32 := 2#32
  let v105_r0 : BitVec 32 := Scalar.remui arg8_r0 c2_i32_79_r0
  let c0_i32_97_r1 : BitVec 32 := 0#32
  let c0_i32_98_r1 : BitVec 32 := 0#32
  ![v105_r0.toNat, 0, 0]

def k0_chk2 (arg8_r0 : BitVec 32) : Prop :=
  (∀ a, (k0_off10 arg8_r0) a + S1x128x128.size a ≤ S2x128x128.size a)
theorem k0_off10_inb : ∀ (arg8_r0 : BitVec 32) (k0_hw2 : k0_chk2 arg8_r0), ∀ a, (k0_off10 arg8_r0) a + S1x128x128.size a ≤ S2x128x128.size a := fun arg8_r0 k0_hw2 => k0_hw2

def k0_off11 (arg7_r0 : BitVec 32) : Fin 3 → Nat :=
  let c2_i32_78_r0 : BitVec 32 := 2#32
  let v104_r0 : BitVec 32 := Scalar.remui arg7_r0 c2_i32_78_r0
  let c0_i32_99_r1 : BitVec 32 := 0#32
  let c0_i32_100_r1 : BitVec 32 := 0#32
  ![v104_r0.toNat, 0, 0]

def k0_chk3 (arg7_r0 : BitVec 32) : Prop :=
  (∀ a, (k0_off11 arg7_r0) a + S1x1x128.size a ≤ S2x1x128.size a)
theorem k0_off11_inb : ∀ (arg7_r0 : BitVec 32) (k0_hw3 : k0_chk3 arg7_r0), ∀ a, (k0_off11 arg7_r0) a + S1x1x128.size a ≤ S2x1x128.size a := fun arg7_r0 k0_hw3 => k0_hw3

def k0_off12 (arg8_r0 : BitVec 32) : Fin 3 → Nat :=
  let c2_i32_97_r0 : BitVec 32 := 2#32
  let v140_r0 : BitVec 32 := Scalar.remui arg8_r0 c2_i32_97_r0
  let c0_i32_99_r0 : BitVec 32 := 0#32
  let c0_i32_100_r0 : BitVec 32 := 0#32
  ![v140_r0.toNat, 0, 0]
def k0_cond5 (i : grid0.Coords) (k0_t1 : Fin k0_t1_loop.trips) (arg10_r0 : BitVec 32) : BitVec 1 :=
  let arg1 : BitVec 32 := BitVec.ofNat 32 (i 1).val
  let c8_i32 : BitVec 32 := 8#32
  let v0 : BitVec 32 := Scalar.muli arg1 c8_i32
  let v62_r0 : BitVec 32 := Scalar.addi arg10_r0 v0
  let true_59_r0 : BitVec 1 := 1#1
  let c1_i32_58_r0 : BitVec 32 := 1#32
  let v68_r0 : BitVec 32 := Scalar.addi arg10_r0 c1_i32_58_r0
  let v69_r0 : BitVec 32 := Scalar.select true_59_r0 v68_r0 arg10_r0
  let c8_i32_60_r0 : BitVec 32 := 8#32
  let v70_r0 : BitVec 1 := Scalar.cmpi .eq v69_r0 c8_i32_60_r0
  let c0_i32_61_r0 : BitVec 32 := 0#32
  let v71_r0 : BitVec 32 := Scalar.select v70_r0 c0_i32_61_r0 v69_r0
  let v72_r0 : BitVec 32 := Scalar.addi v71_r0 v0
  let v111_r0 : BitVec 1 := Scalar.cmpi .ne v62_r0 v72_r0
  let c0_i32_24_r0 : BitVec 32 := 0#32
  let c1_i32_26_r0 : BitVec 32 := 1#32
  let arg5_r0 : BitVec 32 := Scf.iv c0_i32_24_r0 c1_i32_26_r0 k0_t1
  let c7_i32_53_r0 : BitVec 32 := 7#32
  let v61_r0 : BitVec 1 := Scalar.cmpi .eq arg5_r0 c7_i32_53_r0
  let v112_r0 : BitVec 1 := Scalar.ori v111_r0 v61_r0
  let v113_r0 : BitVec 32 := Scalar.extui v112_r0
  let c0_i32_82_r0 : BitVec 32 := 0#32
  let v114_r0 : BitVec 1 := Scalar.cmpi .ne v113_r0 c0_i32_82_r0
  v114_r0

def k0_off13 (i : grid0.Coords) (arg10_r0 : BitVec 32) : Fin 2 → Nat :=
  let c128_i32_98_r0 : BitVec 32 := 128#32
  let arg1 : BitVec 32 := BitVec.ofNat 32 (i 1).val
  let c8_i32 : BitVec 32 := 8#32
  let v0 : BitVec 32 := Scalar.muli arg1 c8_i32
  let v62_r0 : BitVec 32 := Scalar.addi arg10_r0 v0
  let v141_r0 : BitVec 32 := Scalar.muli c128_i32_98_r0 v62_r0
  let c0_i32_101_r0 : BitVec 32 := 0#32
  ![v141_r0.toNat, 0]
def k0_off14 (arg8_r0 : BitVec 32) : Fin 1 → Nat :=
  let c2_i32_97_r0 : BitVec 32 := 2#32
  let v140_r0 : BitVec 32 := Scalar.remui arg8_r0 c2_i32_97_r0
  ![v140_r0.toNat]
def k0_off15 (arg9_r0 : BitVec 32) : Fin 3 → Nat :=
  let c2_i32_97_r0 : BitVec 32 := 2#32
  let v140_r0 : BitVec 32 := Scalar.remui arg9_r0 c2_i32_97_r0
  let c0_i32_99_r0 : BitVec 32 := 0#32
  let c0_i32_100_r0 : BitVec 32 := 0#32
  ![v140_r0.toNat, 0, 0]
def k0_cond7 (i : grid0.Coords) (k0_t1 : Fin k0_t1_loop.trips) (arg10_r0 : BitVec 32) : BitVec 1 :=
  let arg1 : BitVec 32 := BitVec.ofNat 32 (i 1).val
  let c8_i32 : BitVec 32 := 8#32
  let v0 : BitVec 32 := Scalar.muli arg1 c8_i32
  let v62_r0 : BitVec 32 := Scalar.addi arg10_r0 v0
  let true_55_r0 : BitVec 1 := 1#1
  let c1_i32_54_r0 : BitVec 32 := 1#32
  let v63_r0 : BitVec 32 := Scalar.subi arg10_r0 c1_i32_54_r0
  let v64_r0 : BitVec 32 := Scalar.select true_55_r0 v63_r0 arg10_r0
  let c_m1_i32_56_r0 : BitVec 32 := 4294967295#32
  let v65_r0 : BitVec 1 := Scalar.cmpi .eq v64_r0 c_m1_i32_56_r0
  let c7_i32_57_r0 : BitVec 32 := 7#32
  let v66_r0 : BitVec 32 := Scalar.select v65_r0 c7_i32_57_r0 v64_r0
  let v67_r0 : BitVec 32 := Scalar.addi v66_r0 v0
  let v124_r0 : BitVec 1 := Scalar.cmpi .ne v62_r0 v67_r0
  let c0_i32_24_r0 : BitVec 32 := 0#32
  let c1_i32_26_r0 : BitVec 32 := 1#32
  let arg5_r0 : BitVec 32 := Scf.iv c0_i32_24_r0 c1_i32_26_r0 k0_t1
  let c0_i32_52_r0 : BitVec 32 := 0#32
  let v60_r0 : BitVec 1 := Scalar.cmpi .eq arg5_r0 c0_i32_52_r0
  let true_88_r0 : BitVec 1 := 1#1
  let v125_r0 : BitVec 1 := Scalar.xori v60_r0 true_88_r0
  let v126_r0 : BitVec 1 := Scalar.andi v124_r0 v125_r0
  let v127_r0 : BitVec 32 := Scalar.extui v126_r0
  let c0_i32_89_r0 : BitVec 32 := 0#32
  let v128_r0 : BitVec 1 := Scalar.cmpi .ne v127_r0 c0_i32_89_r0
  v128_r0

def k0_off16 (i : grid0.Coords) (arg10_r0 : BitVec 32) : Fin 2 → Nat :=
  let c128_i32_98_r0 : BitVec 32 := 128#32
  let true_55_r0 : BitVec 1 := 1#1
  let c1_i32_54_r0 : BitVec 32 := 1#32
  let v63_r0 : BitVec 32 := Scalar.subi arg10_r0 c1_i32_54_r0
  let v64_r0 : BitVec 32 := Scalar.select true_55_r0 v63_r0 arg10_r0
  let c_m1_i32_56_r0 : BitVec 32 := 4294967295#32
  let v65_r0 : BitVec 1 := Scalar.cmpi .eq v64_r0 c_m1_i32_56_r0
  let c7_i32_57_r0 : BitVec 32 := 7#32
  let v66_r0 : BitVec 32 := Scalar.select v65_r0 c7_i32_57_r0 v64_r0
  let arg1 : BitVec 32 := BitVec.ofNat 32 (i 1).val
  let c8_i32 : BitVec 32 := 8#32
  let v0 : BitVec 32 := Scalar.muli arg1 c8_i32
  let v67_r0 : BitVec 32 := Scalar.addi v66_r0 v0
  let v141_r0 : BitVec 32 := Scalar.muli c128_i32_98_r0 v67_r0
  let c0_i32_101_r0 : BitVec 32 := 0#32
  ![v141_r0.toNat, 0]
def k0_off17 (arg9_r0 : BitVec 32) : Fin 1 → Nat :=
  let c2_i32_97_r0 : BitVec 32 := 2#32
  let v140_r0 : BitVec 32 := Scalar.remui arg9_r0 c2_i32_97_r0
  ![v140_r0.toNat]

def k0_chk1 (i : grid0.Coords) (k0_t1 : Fin k0_t1_loop.trips) (arg6_r0 : BitVec 32) (arg7_r0 : BitVec 32) (arg8_r0 : BitVec 32) (arg9_r0 : BitVec 32) (arg10_r0 : BitVec 32) : Prop :=
  (∀ (k0_h1 : k0_cond1 i k0_t1 arg10_r0 = 1#1), ∀ a, (k0_off4 arg6_r0) a + S1x1x128.size a ≤ S2x1x128.size a) ∧
  (∀ (k0_h1 : k0_cond1 i k0_t1 arg10_r0 = 1#1), ∀ a, (k0_off5 i arg10_r0) a + S1x128.size a ≤ S1x16384.size a) ∧
  (∀ (k0_h1 : k0_cond1 i k0_t1 arg10_r0 = 1#1), ∀ a, (k0_off6 arg6_r0) a + S1.size a ≤ S2.size a) ∧
  (∀ (k0_h2 : k0_cond2 i k0_t1 arg10_r0 = 1#1), ∀ a, (k0_off7 arg7_r0) a + S1x1x128.size a ≤ S2x1x128.size a) ∧
  (∀ (k0_h2 : k0_cond2 i k0_t1 arg10_r0 = 1#1), ∀ a, (k0_off8 i arg10_r0) a + S1x128.size a ≤ S1x16384.size a) ∧
  (∀ (k0_h2 : k0_cond2 i k0_t1 arg10_r0 = 1#1), ∀ a, (k0_off9 arg7_r0) a + S1.size a ≤ S2.size a) ∧
  (∀ (k0_h5 : k0_cond5 i k0_t1 arg10_r0 = 1#1), ∀ a, (k0_off12 arg8_r0) a + S1x128x128.size a ≤ S2x128x128.size a) ∧
  (∀ (k0_h5 : k0_cond5 i k0_t1 arg10_r0 = 1#1), ∀ a, (k0_off13 i arg10_r0) a + S128x128.size a ≤ S16384x128.size a) ∧
  (∀ (k0_h5 : k0_cond5 i k0_t1 arg10_r0 = 1#1), ∀ a, (k0_off14 arg8_r0) a + S1.size a ≤ S2.size a) ∧
  (∀ (k0_h7 : k0_cond7 i k0_t1 arg10_r0 = 1#1), ∀ a, (k0_off15 arg9_r0) a + S1x128x128.size a ≤ S2x128x128.size a) ∧
  (∀ (k0_h7 : k0_cond7 i k0_t1 arg10_r0 = 1#1), ∀ a, (k0_off16 i arg10_r0) a + S128x128.size a ≤ S16384x128.size a) ∧
  (∀ (k0_h7 : k0_cond7 i k0_t1 arg10_r0 = 1#1), ∀ a, (k0_off17 arg9_r0) a + S1.size a ≤ S2.size a)
theorem k0_off4_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i k0_t1 arg10_r0 = 1#1), ∀ a, (k0_off4 arg6_r0) a + S1x1x128.size a ≤ S2x1x128.size a := fun i k0_t1 arg6_r0 arg7_r0 arg8_r0 arg9_r0 arg10_r0 k0_hw1 k0_h1 => k0_hw1.1 k0_h1
theorem k0_off5_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i k0_t1 arg10_r0 = 1#1), ∀ a, (k0_off5 i arg10_r0) a + S1x128.size a ≤ S1x16384.size a := fun i k0_t1 arg6_r0 arg7_r0 arg8_r0 arg9_r0 arg10_r0 k0_hw1 k0_h1 => k0_hw1.2.1 k0_h1
theorem k0_off6_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i k0_t1 arg10_r0 = 1#1), ∀ a, (k0_off6 arg6_r0) a + S1.size a ≤ S2.size a := fun i k0_t1 arg6_r0 arg7_r0 arg8_r0 arg9_r0 arg10_r0 k0_hw1 k0_h1 => k0_hw1.2.2.1 k0_h1
theorem k0_off7_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h2 : k0_cond2 i k0_t1 arg10_r0 = 1#1), ∀ a, (k0_off7 arg7_r0) a + S1x1x128.size a ≤ S2x1x128.size a := fun i k0_t1 arg6_r0 arg7_r0 arg8_r0 arg9_r0 arg10_r0 k0_hw1 k0_h2 => k0_hw1.2.2.2.1 k0_h2
theorem k0_off8_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h2 : k0_cond2 i k0_t1 arg10_r0 = 1#1), ∀ a, (k0_off8 i arg10_r0) a + S1x128.size a ≤ S1x16384.size a := fun i k0_t1 arg6_r0 arg7_r0 arg8_r0 arg9_r0 arg10_r0 k0_hw1 k0_h2 => k0_hw1.2.2.2.2.1 k0_h2
theorem k0_off9_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h2 : k0_cond2 i k0_t1 arg10_r0 = 1#1), ∀ a, (k0_off9 arg7_r0) a + S1.size a ≤ S2.size a := fun i k0_t1 arg6_r0 arg7_r0 arg8_r0 arg9_r0 arg10_r0 k0_hw1 k0_h2 => k0_hw1.2.2.2.2.2.1 k0_h2
theorem k0_off12_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h5 : k0_cond5 i k0_t1 arg10_r0 = 1#1), ∀ a, (k0_off12 arg8_r0) a + S1x128x128.size a ≤ S2x128x128.size a := fun i k0_t1 arg6_r0 arg7_r0 arg8_r0 arg9_r0 arg10_r0 k0_hw1 k0_h5 => k0_hw1.2.2.2.2.2.2.1 k0_h5
theorem k0_off13_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h5 : k0_cond5 i k0_t1 arg10_r0 = 1#1), ∀ a, (k0_off13 i arg10_r0) a + S128x128.size a ≤ S16384x128.size a := fun i k0_t1 arg6_r0 arg7_r0 arg8_r0 arg9_r0 arg10_r0 k0_hw1 k0_h5 => k0_hw1.2.2.2.2.2.2.2.1 k0_h5
theorem k0_off14_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h5 : k0_cond5 i k0_t1 arg10_r0 = 1#1), ∀ a, (k0_off14 arg8_r0) a + S1.size a ≤ S2.size a := fun i k0_t1 arg6_r0 arg7_r0 arg8_r0 arg9_r0 arg10_r0 k0_hw1 k0_h5 => k0_hw1.2.2.2.2.2.2.2.2.1 k0_h5
theorem k0_off15_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h7 : k0_cond7 i k0_t1 arg10_r0 = 1#1), ∀ a, (k0_off15 arg9_r0) a + S1x128x128.size a ≤ S2x128x128.size a := fun i k0_t1 arg6_r0 arg7_r0 arg8_r0 arg9_r0 arg10_r0 k0_hw1 k0_h7 => k0_hw1.2.2.2.2.2.2.2.2.2.1 k0_h7
theorem k0_off16_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h7 : k0_cond7 i k0_t1 arg10_r0 = 1#1), ∀ a, (k0_off16 i arg10_r0) a + S128x128.size a ≤ S16384x128.size a := fun i k0_t1 arg6_r0 arg7_r0 arg8_r0 arg9_r0 arg10_r0 k0_hw1 k0_h7 => k0_hw1.2.2.2.2.2.2.2.2.2.2.1 k0_h7
theorem k0_off17_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h7 : k0_cond7 i k0_t1 arg10_r0 = 1#1), ∀ a, (k0_off17 arg9_r0) a + S1.size a ≤ S2.size a := fun i k0_t1 arg6_r0 arg7_r0 arg8_r0 arg9_r0 arg10_r0 k0_hw1 k0_h7 => k0_hw1.2.2.2.2.2.2.2.2.2.2.2 k0_h7

def k0_off18 (v29_3_r0 : BitVec 32) : Fin 3 → Nat :=
  let c2_i32_44_r0 : BitVec 32 := 2#32
  let v50_r0 : BitVec 32 := Scalar.remui v29_3_r0 c2_i32_44_r0
  let c0_i32_46_r0 : BitVec 32 := 0#32
  let c0_i32_47_r0 : BitVec 32 := 0#32
  ![v50_r0.toNat, 0, 0]

def k0_off19 (i : grid0.Coords) (v29_4_r0 : BitVec 32) : Fin 2 → Nat :=
  let c128_i32_45_r0 : BitVec 32 := 128#32
  let true_29_r0 : BitVec 1 := 1#1
  let c1_i32_28_r0 : BitVec 32 := 1#32
  let v30_r0 : BitVec 32 := Scalar.subi v29_4_r0 c1_i32_28_r0
  let v31_r0 : BitVec 32 := Scalar.select true_29_r0 v30_r0 v29_4_r0
  let c_m1_i32_30_r0 : BitVec 32 := 4294967295#32
  let v32_r0 : BitVec 1 := Scalar.cmpi .eq v31_r0 c_m1_i32_30_r0
  let c7_i32_31_r0 : BitVec 32 := 7#32
  let v33_r0 : BitVec 32 := Scalar.select v32_r0 c7_i32_31_r0 v31_r0
  let arg1 : BitVec 32 := BitVec.ofNat 32 (i 1).val
  let c8_i32 : BitVec 32 := 8#32
  let v0 : BitVec 32 := Scalar.muli arg1 c8_i32
  let v34_r0 : BitVec 32 := Scalar.addi v33_r0 v0
  let v51_r0 : BitVec 32 := Scalar.muli c128_i32_45_r0 v34_r0
  let c0_i32_48_r0 : BitVec 32 := 0#32
  ![v51_r0.toNat, 0]

def k0_chk5 (i : grid0.Coords) (v29_4_r0 : BitVec 32) : Prop :=
  (∀ a, (k0_off19 i v29_4_r0) a + S128x128.size a ≤ S16384x128.size a)
theorem k0_off19_inb : ∀ (i : grid0.Coords) (v29_4_r0 : BitVec 32) (k0_hw5 : k0_chk5 i v29_4_r0), ∀ a, (k0_off19 i v29_4_r0) a + S128x128.size a ≤ S16384x128.size a := fun i v29_4_r0 k0_hw5 => k0_hw5

def k0_off20 (v29_3_r0 : BitVec 32) : Fin 1 → Nat :=
  let c2_i32_44_r0 : BitVec 32 := 2#32
  let v50_r0 : BitVec 32 := Scalar.remui v29_3_r0 c2_i32_44_r0
  ![v50_r0.toNat]
def k0_off21 (v29_3_r0 : BitVec 32) : Fin 3 → Nat :=
  let c2_i32_44_r0 : BitVec 32 := 2#32
  let v50_r0 : BitVec 32 := Scalar.remui v29_3_r0 c2_i32_44_r0
  let c0_i32_50_r0 : BitVec 32 := 0#32
  let c0_i32_51_r0 : BitVec 32 := 0#32
  ![v50_r0.toNat, 0, 0]

def k0_chk4 (v29_3_r0 : BitVec 32) : Prop :=
  (∀ a, (k0_off18 v29_3_r0) a + S1x128x128.size a ≤ S2x128x128.size a) ∧
  (∀ a, (k0_off20 v29_3_r0) a + S1.size a ≤ S2.size a) ∧
  (∀ a, (k0_off21 v29_3_r0) a + S1x128x128.size a ≤ S2x128x128.size a)
theorem k0_off18_inb : ∀ (v29_3_r0 : BitVec 32) (k0_hw4 : k0_chk4 v29_3_r0), ∀ a, (k0_off18 v29_3_r0) a + S1x128x128.size a ≤ S2x128x128.size a := fun v29_3_r0 k0_hw4 => k0_hw4.1
theorem k0_off20_inb : ∀ (v29_3_r0 : BitVec 32) (k0_hw4 : k0_chk4 v29_3_r0), ∀ a, (k0_off20 v29_3_r0) a + S1.size a ≤ S2.size a := fun v29_3_r0 k0_hw4 => k0_hw4.2.1
theorem k0_off21_inb : ∀ (v29_3_r0 : BitVec 32) (k0_hw4 : k0_chk4 v29_3_r0), ∀ a, (k0_off21 v29_3_r0) a + S1x128x128.size a ≤ S2x128x128.size a := fun v29_3_r0 k0_hw4 => k0_hw4.2.2

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1024x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1024x1 .i32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S384x512 .bf16 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x512 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S512x2000 .bf16 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S1x2000 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S128x128 .bf16 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 2 → Memref sig .tc .vmem S1024x2000 .f32 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S16384 : Shape := ⟨1, ![16384]⟩
abbrev S1000000x128 : Shape := ⟨2, ![1000000, 128]⟩
abbrev S100x128 : Shape := ⟨2, ![100, 128]⟩
abbrev S1x128 : Shape := ⟨2, ![1, 128]⟩
abbrev S128 : Shape := ⟨1, ![128]⟩
abbrev S128x128 : Shape := ⟨2, ![128, 128]⟩
abbrev S384x512 : Shape := ⟨2, ![384, 512]⟩
abbrev S512 : Shape := ⟨1, ![512]⟩
abbrev S512x2000 : Shape := ⟨2, ![512, 2000]⟩
abbrev S2000 : Shape := ⟨1, ![2000]⟩
abbrev S_ : Shape := ⟨0, ![]⟩
abbrev S16384x1 : Shape := ⟨2, ![16384, 1]⟩
abbrev S1 : Shape := ⟨1, ![1]⟩
abbrev S1x1 : Shape := ⟨2, ![1, 1]⟩
abbrev S16384x128 : Shape := ⟨2, ![16384, 128]⟩
abbrev S16384x384 : Shape := ⟨2, ![16384, 384]⟩
abbrev S16384x512 : Shape := ⟨2, ![16384, 512]⟩
abbrev S1x512 : Shape := ⟨2, ![1, 512]⟩
abbrev S16384x2000 : Shape := ⟨2, ![16384, 2000]⟩
abbrev S1x2000 : Shape := ⟨2, ![1, 2000]⟩

abbrev nBuf : Space → Nat
  | .hbm => 95
  | .vmem => 0
  | .smem => 0
  | _ => 0

abbrev bufTy : (tb : Table) → Fin (tcTables nBuf tb) → BufTy
  | .hbm, ⟨0, _⟩ => ⟨S16384, .i32⟩
  | .hbm, ⟨1, _⟩ => ⟨S16384, .f32⟩
  | .hbm, ⟨2, _⟩ => ⟨S16384, .i32⟩
  | .hbm, ⟨3, _⟩ => ⟨S1000000x128, .f32⟩
  | .hbm, ⟨4, _⟩ => ⟨S100x128, .f32⟩
  | .hbm, ⟨5, _⟩ => ⟨S1x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S384x512, .f32⟩
  | .hbm, ⟨10, _⟩ => ⟨S512, .f32⟩
  | .hbm, ⟨11, _⟩ => ⟨S512x2000, .f32⟩
  | .hbm, ⟨12, _⟩ => ⟨S2000, .f32⟩
  | .hbm, ⟨13, _⟩ => ⟨S_, .i32⟩
  | .hbm, ⟨14, _⟩ => ⟨S16384, .i32⟩
  | .hbm, ⟨15, _⟩ => ⟨S16384, .i1⟩
  | .hbm, ⟨16, _⟩ => ⟨S_, .i32⟩
  | .hbm, ⟨17, _⟩ => ⟨S16384, .i32⟩
  | .hbm, ⟨18, _⟩ => ⟨S16384, .i32⟩
  | .hbm, ⟨19, _⟩ => ⟨S16384, .i32⟩
  | .hbm, ⟨20, _⟩ => ⟨S16384x1, .i32⟩
  | .hbm, ⟨21, _⟩ => ⟨S1, .i32⟩
  | .hbm, ⟨22, _⟩ => ⟨S_, .i32⟩
  | .hbm, ⟨23, _⟩ => ⟨S16384x1, .i32⟩
  | .hbm, ⟨24, _⟩ => ⟨S16384x1, .i1⟩
  | .hbm, ⟨25, _⟩ => ⟨S1x1, .i32⟩
  | .hbm, ⟨26, _⟩ => ⟨S16384x1, .i32⟩
  | .hbm, ⟨27, _⟩ => ⟨S16384x1, .i1⟩
  | .hbm, ⟨28, _⟩ => ⟨S16384x1, .i1⟩
  | .hbm, ⟨29, _⟩ => ⟨S_, .i1⟩
  | .hbm, ⟨30, _⟩ => ⟨S16384, .i1⟩
  | .hbm, ⟨31, _⟩ => ⟨S16384x128, .f32⟩
  | .hbm, ⟨32, _⟩ => ⟨S16384x128, .i1⟩
  | .hbm, ⟨33, _⟩ => ⟨S_, .f32⟩
  | .hbm, ⟨34, _⟩ => ⟨S16384x128, .f32⟩
  | .hbm, ⟨35, _⟩ => ⟨S16384x128, .f32⟩
  | .hbm, ⟨36, _⟩ => ⟨S16384x1, .f32⟩
  | .hbm, ⟨37, _⟩ => ⟨S16384x128, .f32⟩
  | .hbm, ⟨38, _⟩ => ⟨S1x128, .f32⟩
  | .hbm, ⟨39, _⟩ => ⟨S16384x128, .f32⟩
  | .hbm, ⟨40, _⟩ => ⟨S16384x128, .f32⟩
  | .hbm, ⟨41, _⟩ => ⟨S16384x128, .f32⟩
  | .hbm, ⟨42, _⟩ => ⟨S16384x128, .f32⟩
  | .hbm, ⟨43, _⟩ => ⟨S_, .f32⟩
  | .hbm, ⟨44, _⟩ => ⟨S16384x128, .f32⟩
  | .hbm, ⟨45, _⟩ => ⟨S16384x128, .f32⟩
  | .hbm, ⟨46, _⟩ => ⟨S_, .f32⟩
  | .hbm, ⟨47, _⟩ => ⟨S16384x128, .f32⟩
  | .hbm, ⟨48, _⟩ => ⟨S16384x128, .f32⟩
  | .hbm, ⟨49, _⟩ => ⟨S16384x128, .f32⟩
  | .hbm, ⟨50, _⟩ => ⟨S16384x128, .f32⟩
  | .hbm, ⟨51, _⟩ => ⟨S1x128, .f32⟩
  | .hbm, ⟨52, _⟩ => ⟨S16384x128, .f32⟩
  | .hbm, ⟨53, _⟩ => ⟨S16384x128, .f32⟩
  | .hbm, ⟨54, _⟩ => ⟨S_, .i32⟩
  | .hbm, ⟨55, _⟩ => ⟨S16384, .i32⟩
  | .hbm, ⟨56, _⟩ => ⟨S16384, .i1⟩
  | .hbm, ⟨57, _⟩ => ⟨S_, .i32⟩
  | .hbm, ⟨58, _⟩ => ⟨S16384, .i32⟩
  | .hbm, ⟨59, _⟩ => ⟨S16384, .i32⟩
  | .hbm, ⟨60, _⟩ => ⟨S16384, .i32⟩
  | .hbm, ⟨61, _⟩ => ⟨S16384x1, .i32⟩
  | .hbm, ⟨62, _⟩ => ⟨S1, .i32⟩
  | .hbm, ⟨63, _⟩ => ⟨S_, .i32⟩
  | .hbm, ⟨64, _⟩ => ⟨S16384x1, .i32⟩
  | .hbm, ⟨65, _⟩ => ⟨S16384x1, .i1⟩
  | .hbm, ⟨66, _⟩ => ⟨S1x1, .i32⟩
  | .hbm, ⟨67, _⟩ => ⟨S16384x1, .i32⟩
  | .hbm, ⟨68, _⟩ => ⟨S16384x1, .i1⟩
  | .hbm, ⟨69, _⟩ => ⟨S16384x1, .i1⟩
  | .hbm, ⟨70, _⟩ => ⟨S_, .i1⟩
  | .hbm, ⟨71, _⟩ => ⟨S16384, .i1⟩
  | .hbm, ⟨72, _⟩ => ⟨S16384x128, .f32⟩
  | .hbm, ⟨73, _⟩ => ⟨S16384x128, .i1⟩
  | .hbm, ⟨74, _⟩ => ⟨S_, .f32⟩
  | .hbm, ⟨75, _⟩ => ⟨S16384x128, .f32⟩
  | .hbm, ⟨76, _⟩ => ⟨S16384x128, .f32⟩
  | .hbm, ⟨77, _⟩ => ⟨S16384x384, .f32⟩
  | .hbm, ⟨78, _⟩ => ⟨S16384x512, .f32⟩
  | .hbm, ⟨79, _⟩ => ⟨S1x512, .f32⟩
  | .hbm, ⟨80, _⟩ => ⟨S16384x512, .f32⟩
  | .hbm, ⟨81, _⟩ => ⟨S16384x512, .f32⟩
  | .hbm, ⟨82, _⟩ => ⟨S16384x512, .f32⟩
  | .hbm, ⟨83, _⟩ => ⟨S16384x512, .f32⟩
  | .hbm, ⟨84, _⟩ => ⟨S_, .f32⟩
  | .hbm, ⟨85, _⟩ => ⟨S16384x512, .f32⟩
  | .hbm, ⟨86, _⟩ => ⟨S16384x512, .f32⟩
  | .hbm, ⟨87, _⟩ => ⟨S_, .f32⟩
  | .hbm, ⟨88, _⟩ => ⟨S16384x512, .f32⟩
  | .hbm, ⟨89, _⟩ => ⟨S16384x512, .f32⟩
  | .hbm, ⟨90, _⟩ => ⟨S16384x512, .f32⟩
  | .hbm, ⟨91, _⟩ => ⟨S16384x2000, .f32⟩
  | .hbm, ⟨92, _⟩ => ⟨S1x2000, .f32⟩
  | .hbm, ⟨93, _⟩ => ⟨S16384x2000, .f32⟩
  | .hbm, ⟨94, _⟩ => ⟨S16384x2000, .f32⟩
  | _, _ => ⟨S16384, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_call0_c : Ref sig .tc := ⟨.hbm, 13, rfl⟩
abbrev main_call0_v0 : Ref sig .tc := ⟨.hbm, 14, rfl⟩
abbrev main_call0_v1 : Ref sig .tc := ⟨.hbm, 15, rfl⟩
abbrev main_call0_c_0 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_v5 : Ref sig .tc := ⟨.hbm, 20, rfl⟩
abbrev main_call0_c_1 : Ref sig .tc := ⟨.hbm, 21, rfl⟩
abbrev main_call0_c_2 : Ref sig .tc := ⟨.hbm, 22, rfl⟩
abbrev main_call0_v6 : Ref sig .tc := ⟨.hbm, 23, rfl⟩
abbrev main_call0_v7 : Ref sig .tc := ⟨.hbm, 24, rfl⟩
abbrev main_call0_v8 : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_call0_c_3 : Ref sig .tc := ⟨.hbm, 29, rfl⟩
abbrev main_call0_v12 : Ref sig .tc := ⟨.hbm, 30, rfl⟩
abbrev main_call0_v13 : Ref sig .tc := ⟨.hbm, 31, rfl⟩
abbrev main_call0_v14 : Ref sig .tc := ⟨.hbm, 32, rfl⟩
abbrev main_call0_cst : Ref sig .tc := ⟨.hbm, 33, rfl⟩
abbrev main_call0_v15 : Ref sig .tc := ⟨.hbm, 34, rfl⟩
abbrev main_v0 : Ref sig .tc := ⟨.hbm, 35, rfl⟩
abbrev main_v1 : Ref sig .tc := ⟨.hbm, 36, rfl⟩
abbrev main_v2 : Ref sig .tc := ⟨.hbm, 37, rfl⟩
abbrev main_v3 : Ref sig .tc := ⟨.hbm, 38, rfl⟩
abbrev main_v4 : Ref sig .tc := ⟨.hbm, 39, rfl⟩
abbrev main_v5 : Ref sig .tc := ⟨.hbm, 40, rfl⟩
abbrev main_v6 : Ref sig .tc := ⟨.hbm, 41, rfl⟩
abbrev main_v7 : Ref sig .tc := ⟨.hbm, 42, rfl⟩
abbrev main_cst : Ref sig .tc := ⟨.hbm, 43, rfl⟩
abbrev main_v8 : Ref sig .tc := ⟨.hbm, 44, rfl⟩
abbrev main_v9 : Ref sig .tc := ⟨.hbm, 45, rfl⟩
abbrev main_cst_0 : Ref sig .tc := ⟨.hbm, 46, rfl⟩
abbrev main_v10 : Ref sig .tc := ⟨.hbm, 47, rfl⟩
abbrev main_v11 : Ref sig .tc := ⟨.hbm, 48, rfl⟩
abbrev main_v12 : Ref sig .tc := ⟨.hbm, 49, rfl⟩
abbrev main_v13 : Ref sig .tc := ⟨.hbm, 50, rfl⟩
abbrev main_v14 : Ref sig .tc := ⟨.hbm, 51, rfl⟩
abbrev main_v15 : Ref sig .tc := ⟨.hbm, 52, rfl⟩
abbrev main_v16 : Ref sig .tc := ⟨.hbm, 53, rfl⟩
abbrev main_call1_c : Ref sig .tc := ⟨.hbm, 54, rfl⟩
abbrev main_call1_v0 : Ref sig .tc := ⟨.hbm, 55, rfl⟩
abbrev main_call1_v1 : Ref sig .tc := ⟨.hbm, 56, rfl⟩
abbrev main_call1_c_0 : Ref sig .tc := ⟨.hbm, 57, rfl⟩
abbrev main_call1_v2 : Ref sig .tc := ⟨.hbm, 58, rfl⟩
abbrev main_call1_v3 : Ref sig .tc := ⟨.hbm, 59, rfl⟩
abbrev main_call1_v4 : Ref sig .tc := ⟨.hbm, 60, rfl⟩
abbrev main_call1_v5 : Ref sig .tc := ⟨.hbm, 61, rfl⟩
abbrev main_call1_c_1 : Ref sig .tc := ⟨.hbm, 62, rfl⟩
abbrev main_call1_c_2 : Ref sig .tc := ⟨.hbm, 63, rfl⟩
abbrev main_call1_v6 : Ref sig .tc := ⟨.hbm, 64, rfl⟩
abbrev main_call1_v7 : Ref sig .tc := ⟨.hbm, 65, rfl⟩
abbrev main_call1_v8 : Ref sig .tc := ⟨.hbm, 66, rfl⟩
abbrev main_call1_v9 : Ref sig .tc := ⟨.hbm, 67, rfl⟩
abbrev main_call1_v10 : Ref sig .tc := ⟨.hbm, 68, rfl⟩
abbrev main_call1_v11 : Ref sig .tc := ⟨.hbm, 69, rfl⟩
abbrev main_call1_c_3 : Ref sig .tc := ⟨.hbm, 70, rfl⟩
abbrev main_call1_v12 : Ref sig .tc := ⟨.hbm, 71, rfl⟩
abbrev main_call1_v13 : Ref sig .tc := ⟨.hbm, 72, rfl⟩
abbrev main_call1_v14 : Ref sig .tc := ⟨.hbm, 73, rfl⟩
abbrev main_call1_cst : Ref sig .tc := ⟨.hbm, 74, rfl⟩
abbrev main_call1_v15 : Ref sig .tc := ⟨.hbm, 75, rfl⟩
abbrev main_v17 : Ref sig .tc := ⟨.hbm, 76, rfl⟩
abbrev main_v18 : Ref sig .tc := ⟨.hbm, 77, rfl⟩
abbrev main_v19 : Ref sig .tc := ⟨.hbm, 78, rfl⟩
abbrev main_v20 : Ref sig .tc := ⟨.hbm, 79, rfl⟩
abbrev main_v21 : Ref sig .tc := ⟨.hbm, 80, rfl⟩
abbrev main_v22 : Ref sig .tc := ⟨.hbm, 81, rfl⟩
abbrev main_v23 : Ref sig .tc := ⟨.hbm, 82, rfl⟩
abbrev main_v24 : Ref sig .tc := ⟨.hbm, 83, rfl⟩
abbrev main_cst_1 : Ref sig .tc := ⟨.hbm, 84, rfl⟩
abbrev main_v25 : Ref sig .tc := ⟨.hbm, 85, rfl⟩
abbrev main_v26 : Ref sig .tc := ⟨.hbm, 86, rfl⟩
abbrev main_cst_2 : Ref sig .tc := ⟨.hbm, 87, rfl⟩
abbrev main_v27 : Ref sig .tc := ⟨.hbm, 88, rfl⟩
abbrev main_v28 : Ref sig .tc := ⟨.hbm, 89, rfl⟩
abbrev main_v29 : Ref sig .tc := ⟨.hbm, 90, rfl⟩
abbrev main_v30 : Ref sig .tc := ⟨.hbm, 91, rfl⟩
abbrev main_v31 : Ref sig .tc := ⟨.hbm, 92, rfl⟩
abbrev main_v32 : Ref sig .tc := ⟨.hbm, 93, rfl⟩
abbrev main_v33 : Ref sig .tc := ⟨.hbm, 94, rfl⟩

abbrev nD : Nat := 1
abbrev τ : Topo := Topo.v7x

variable {F : FTy → Type} [FloatOps F]
-- ==== Proof.Words.lean ====
module

public import proofs.«01_k».proof.Proof.Gen.KernelIdeal.Skeleton

@[expose] public section

/-! # The words of the gather kernel

The gather kernel keeps five counters across its eight trips: the number of index blocks it has started to copy in, the
number it has waited for, the number of row blocks it has started to copy out, the number it has waited for, and the
position in its own list of blocks.  This module says what they are at trip `t`, and what every offset, condition and side
condition of the kernel is at those counters, on tile `j` of a SparseCore: block `8 j + t` of the 128 blocks. -/

noncomputable section

namespace Cert.Proof.Words

open Idealize.ShloMosaic Cert.KernelIdeal Cert.KernelIdeal.Gen

/-- The five counters at the start of trip `t` (after the loop: `t = 8`). -/
def cw (t : ℕ) : BitVec 32 × BitVec 32 × BitVec 32 × BitVec 32 × BitVec 32 :=
  (BitVec.ofNat 32 (min (t + 1) 8), BitVec.ofNat 32 t, BitVec.ofNat 32 t, BitVec.ofNat 32 (t - 1), BitVec.ofNat 32 (t % 8))

variable (i : grid0.Coords)

theorem trips : k0_t1_loop.trips = 8 := by decide +kernel

/-- What is copied in next is started at every trip but the last. -/
theorem cond1_iff (t : Fin k0_t1_loop.trips) : k0_cond1 i t (cw t.val).2.2.2.2 = 1#1 ↔ t.val < 7 := by
  unfold k0_cond1; generalize i 1 = j; revert j t; decide +kernel
theorem cond2 (t : Fin k0_t1_loop.trips) : k0_cond2 i t (cw t.val).2.2.2.2 = 1#1 := by
  unfold k0_cond2; generalize i 1 = j; revert j t; decide +kernel
theorem cond5 (t : Fin k0_t1_loop.trips) : k0_cond5 i t (cw t.val).2.2.2.2 = 1#1 := by
  unfold k0_cond5; generalize i 1 = j; revert j t; decide +kernel
theorem cond7_iff (t : Fin k0_t1_loop.trips) : k0_cond7 i t (cw t.val).2.2.2.2 = 1#1 ↔ 0 < t.val := by
  unfold k0_cond7; generalize i 1 = j; revert j t; decide +kernel

theorem off4 (t : Fin k0_t1_loop.trips) (h : t.val < 7) : k0_off4 (cw t.val).1 = ![(t.val + 1) % 2, 0, 0] := by
  unfold k0_off4; revert t; decide +kernel
theorem off5 (t : Fin k0_t1_loop.trips) (h : t.val < 7) :
    k0_off5 i (cw t.val).2.2.2.2 = ![0, 128 * ((8 * (i 1).val + (t.val + 1)) % 128)] := by
  unfold k0_off5; generalize i 1 = j; revert j t; decide +kernel
theorem off6 (t : Fin k0_t1_loop.trips) (h : t.val < 7) : k0_off6 (cw t.val).1 = ![(t.val + 1) % 2] := by
  unfold k0_off6; revert t; decide +kernel
theorem off7 (t : Fin k0_t1_loop.trips) : k0_off7 (cw t.val).2.1 = ![t.val % 2, 0, 0] := by
  unfold k0_off7; revert t; decide +kernel
theorem off8 (t : Fin k0_t1_loop.trips) : k0_off8 i (cw t.val).2.2.2.2 = ![0, 128 * ((8 * (i 1).val + t.val) % 128)] := by
  unfold k0_off8; generalize i 1 = j; revert j t; decide +kernel
theorem off9 (t : Fin k0_t1_loop.trips) : k0_off9 (cw t.val).2.1 = ![t.val % 2] := by
  unfold k0_off9; revert t; decide +kernel
theorem off10 (t : Fin k0_t1_loop.trips) : k0_off10 (cw t.val).2.2.1 = ![t.val % 2, 0, 0] := by
  unfold k0_off10; revert t; decide +kernel
theorem off11 (t : Fin k0_t1_loop.trips) : k0_off11 (cw t.val).2.1 = ![t.val % 2, 0, 0] := by
  unfold k0_off11; revert t; decide +kernel
theorem off12 (t : Fin k0_t1_loop.trips) : k0_off12 (cw t.val).2.2.1 = ![t.val % 2, 0, 0] := by
  unfold k0_off12; revert t; decide +kernel
theorem off13 (t : Fin k0_t1_loop.trips) : k0_off13 i (cw t.val).2.2.2.2 = ![128 * ((8 * (i 1).val + t.val) % 128), 0] := by
  unfold k0_off13; generalize i 1 = j; revert j t; decide +kernel
theorem off14 (t : Fin k0_t1_loop.trips) : k0_off14 (cw t.val).2.2.1 = ![t.val % 2] := by
  unfold k0_off14; revert t; decide +kernel
theorem off15 (t : Fin k0_t1_loop.trips) : k0_off15 (cw t.val).2.2.2.1 = ![(t.val - 1) % 2, 0, 0] := by
  unfold k0_off15; revert t; decide +kernel
theorem off16 (t : Fin k0_t1_loop.trips) (h : 0 < t.val) :
    k0_off16 i (cw t.val).2.2.2.2 = ![128 * ((8 * (i 1).val + (t.val - 1)) % 128), 0] := by
  unfold k0_off16; generalize i 1 = j; revert j t; decide +kernel
theorem off17 (t : Fin k0_t1_loop.trips) : k0_off17 (cw t.val).2.2.2.1 = ![(t.val - 1) % 2] := by
  unfold k0_off17; revert t; decide +kernel

theorem off1 : k0_off1 = ![0 % 2, 0, 0] := by decide +kernel
theorem off2 : k0_off2 i = ![0, 128 * ((8 * (i 1).val + 0) % 128)] := by
  unfold k0_off2; generalize i 1 = j; revert j; decide +kernel
theorem off3 : k0_off3 = ![0 % 2] := by decide +kernel
theorem off18 : k0_off18 (cw 8).2.2.2.1 = ![7 % 2, 0, 0] := by decide +kernel
theorem off19 : k0_off19 i (cw 8).2.2.2.2 = ![128 * ((8 * (i 1).val + 7) % 128), 0] := by
  unfold k0_off19; generalize i 1 = j; revert j; decide +kernel
theorem off20 : k0_off20 (cw 8).2.2.2.1 = ![7 % 2] := by decide +kernel
theorem off21 : k0_off21 (cw 8).2.2.2.1 = ![7 % 2, 0, 0] := by decide +kernel

theorem chk3 (t : Fin k0_t1_loop.trips) : k0_chk3 (cw t.val).2.1 := by
  unfold k0_chk3; rw [off11]; revert t; decide +kernel
theorem chk2 (t : Fin k0_t1_loop.trips) : k0_chk2 (cw t.val).2.2.1 := by
  unfold k0_chk2; rw [off10]; revert t; decide +kernel
theorem chk1 (t : Fin k0_t1_loop.trips) :
    k0_chk1 i t (cw t.val).1 (cw t.val).2.1 (cw t.val).2.2.1 (cw t.val).2.2.2.1 (cw t.val).2.2.2.2 := by
  unfold k0_chk1
  simp only [cond1_iff, cond7_iff]
  refine ⟨fun h => ?_, fun h => ?_, fun h => ?_, fun h => ?_, fun h => ?_, fun h => ?_, fun h => ?_, fun h => ?_, fun h => ?_, fun h => ?_, fun h => ?_, fun h => ?_⟩
  · rw [off4 t h]; revert t; decide +kernel
  · rw [off5 i t h]; generalize i 1 = j; revert j t; decide +kernel
  · rw [off6 t h]; revert t; decide +kernel
  · clear h; rw [off7]; revert t; decide +kernel
  · clear h; rw [off8]; generalize i 1 = j; revert j t; decide +kernel
  · clear h; rw [off9]; revert t; decide +kernel
  · clear h; rw [off12]; revert t; decide +kernel
  · clear h; rw [off13]; generalize i 1 = j; revert j t; decide +kernel
  · clear h; rw [off14]; revert t; decide +kernel
  · rw [off15]; revert t; decide +kernel
  · rw [off16 i t h]; generalize i 1 = j; revert j t; decide +kernel
  · rw [off17]; revert t; decide +kernel
theorem chk5 : k0_chk5 i (cw 8).2.2.2.2 := by
  unfold k0_chk5; rw [off19]; generalize i 1 = j; revert j; decide +kernel
theorem chk4 : k0_chk4 (cw 8).2.2.2.1 := by decide +kernel

/-- The counters a trip hands on, computed as the kernel computes them, are the next trip's. -/
theorem next (t : Fin k0_t1_loop.trips) :
    (let a := cw t.val
     let v0 : BitVec 32 := Scalar.muli (BitVec.ofNat 32 (i 1).val) 8#32
     let iv : BitVec 32 := Scf.iv 0#32 1#32 t
     let cur : BitVec 32 := Scalar.addi a.2.2.2.2 v0
     let dn : BitVec 32 := Scalar.select 1#1 (Scalar.subi a.2.2.2.2 1#32) a.2.2.2.2
     let prev : BitVec 32 := Scalar.addi (Scalar.select (Scalar.cmpi .eq dn 4294967295#32) 7#32 dn) v0
     let up : BitVec 32 := Scalar.select 1#1 (Scalar.addi a.2.2.2.2 1#32) a.2.2.2.2
     let wrap : BitVec 32 := Scalar.select (Scalar.cmpi .eq up 8#32) 0#32 up
     let nxt : BitVec 32 := Scalar.addi wrap v0
     (Scalar.select (Scalar.andi (Scalar.andi (Scalar.cmpi .ne cur nxt) (Scalar.xori (Scalar.cmpi .sge iv 7#32) 1#1)) 1#1)
        (Scalar.addi a.1 1#32) a.1,
      Scalar.select (Scalar.ori (Scalar.cmpi .ne cur nxt) (Scalar.cmpi .eq iv 7#32)) (Scalar.addi a.2.1 1#32) a.2.1,
      Scalar.select (Scalar.andi (Scalar.ori (Scalar.cmpi .ne cur nxt) (Scalar.cmpi .eq iv 7#32)) 1#1) (Scalar.addi a.2.2.1 1#32) a.2.2.1,
      Scalar.select (Scalar.andi (Scalar.andi (Scalar.cmpi .ne cur prev) (Scalar.xori (Scalar.cmpi .eq iv 0#32) 1#1)) 1#1)
        (Scalar.addi a.2.2.2.1 1#32) a.2.2.2.1,
      wrap)) = cw (t.val + 1) := by
  generalize i 1 = j; revert j t; decide +kernel

end Cert.Proof.Words

end
-- ==== Proof.Setup.lean ====
module

public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Pipeline.Regions
public import Idealize.ShloMosaic.Lib.Tactic
public import Idealize.ShloMosaic.Lib.WriteMode
public import Idealize.ShloMosaic.Lib.ShareLeaves
public import Idealize.ShloMosaic.Lib.Transfers
public import proofs.«01_k».proof.Proof.Words

@[expose] public section

/-! # What the proof of the program is about

The program as the launch theorem takes it, the ghost state the proof uses, and the buffers the gather kernel works on,
with the pieces of them its copies move: block `b` of the index row and of the gathered rows, slots `n` of the two
double buffers.  The ghost state is four libraries' side by side: the handshakes of the two processors, the rounds of the
pipelined dense layer, the write mode of the gathered rows (both SparseCores write the same rows, to the same values),
and the copies' counters. -/

noncomputable section

namespace Cert.Proof

open Cert.KernelIdeal Cert.KernelIdeal.Gen

open Idealize.ShloMosaic
open Idealize.ShloMosaic.SparseCore (V)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

abbrev ΛP : Labels := Pipeline.Sig Λ₀ (Fin 1) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The ghost state -/

abbrev UH : Type := URounds (GSem nD τ sig) ℕ
abbrev UP : Type := URounds (GSem nD τ sig) Unit
abbrev UWm (F : FTy → Type) : Type := WmRA nD τ sig (Elt F)
abbrev UU (F : FTy → Type) : Type := UH × (UP × (UWm F × Counters))
abbrev MM (F : FTy → Type) : Type _ := MT nD τ sig (HIx 1) (Elt F) ℕ (UU F) ℕ

abbrev EH : Emb UH (MM F) := embL
abbrev EP : Emb UP (MM F) := Emb.inl.trans embR
abbrev wmE : UEmb (UWm F) (UU F) := (UEmb.inl.trans UEmb.inr).trans UEmb.inr

instance EP_lands : (EP (F := F)).LandsIn (upEmb : UEmb _ (MM F)) := by unfold EP; infer_instance

/-! ## Buffers -/

abbrev tLoc (d : Dev nD) : Loc nD τ sig := (SparseCore.T d).loc main_arg3
abbrev iLoc (d : Dev nD) : Loc nD τ sig := (SparseCore.T d).loc main_v0
abbrev oLoc (d : Dev nD) : Loc nD τ sig := (SparseCore.T d).loc main_v1

abbrev tV : Memref sig .scVector .hbm S1000000x128 .f32 := Memref.whole main_arg3_scv
abbrev iV : Memref sig .scVector .hbm S1x16384 .i32 := Memref.whole main_v0_scv
abbrev oV : Memref sig .scVector .hbm S16384x128 .f32 := Memref.whole main_v1_scv
abbrev sV : Memref sig .scVector .vmem S2x1x128 .i32 := Memref.whole cc0_scoped0
abbrev rV : Memref sig .scVector .vmem S2x128x128 .f32 := Memref.whole cc0_scoped2

/-! ## The pieces the copies move -/

theorem inb_idx (b : ℕ) : ∀ a, (![0, 128 * (b % 128)] : Fin 2 → ℕ) a + S1x128.size a ≤ S1x16384.size a := by
  have := Nat.mod_lt b (show 0 < 128 by decide)
  intro a; match a with
  | 0 => exact (by decide : 0 + 1 ≤ 1)
  | 1 => show 128 * (b % 128) + 128 ≤ 16384; omega
theorem inb_out (b : ℕ) : ∀ a, (![128 * (b % 128), 0] : Fin 2 → ℕ) a + S128x128.size a ≤ S16384x128.size a := by
  have := Nat.mod_lt b (show 0 < 128 by decide)
  intro a; match a with
  | 0 => show 128 * (b % 128) + 128 ≤ 16384; omega
  | 1 => exact (by decide : 0 + 128 ≤ 128)
theorem inb_slotI (n : ℕ) : ∀ a, (![n % 2, 0, 0] : Fin 3 → ℕ) a + S1x1x128.size a ≤ S2x1x128.size a := by
  have := Nat.mod_lt n (show 0 < 2 by decide)
  intro a; match a with
  | 0 => show n % 2 + 1 ≤ 2; omega
  | 1 => exact (by decide : 0 + 1 ≤ 1)
  | 2 => exact (by decide : 0 + 128 ≤ 128)
theorem inb_slotO (n : ℕ) : ∀ a, (![n % 2, 0, 0] : Fin 3 → ℕ) a + S1x128x128.size a ≤ S2x128x128.size a := by
  have := Nat.mod_lt n (show 0 < 2 by decide)
  intro a; match a with
  | 0 => show n % 2 + 1 ≤ 2; omega
  | 1 => exact (by decide : 0 + 128 ≤ 128)
  | 2 => exact (by decide : 0 + 128 ≤ 128)
theorem inb_sem (n : ℕ) : ∀ a, (![n % 2] : Fin 1 → ℕ) a + S1.size a ≤ S2.size a := by
  have := Nat.mod_lt n (show 0 < 2 by decide)
  intro a; match a with
  | 0 => show n % 2 + 1 ≤ 2; omega

/-- Block `b` of the index row. -/
abbrev idxBlk (b : ℕ) : Memref sig .scVector .hbm S1x128 .i32 :=
  iV.slice (Rect.unit (s := S1x16384) ![0, 128 * (b % 128)] S1x128.size (inb_idx b)) (fun _ => rfl)
/-- Block `b` of the gathered rows. -/
abbrev outBlk (b : ℕ) : Memref sig .scVector .hbm S128x128 .f32 :=
  oV.slice (Rect.unit (s := S16384x128) ![128 * (b % 128), 0] S128x128.size (inb_out b)) (fun _ => rfl)
/-- Slot `n` of the index buffer. -/
abbrev slotI (n : ℕ) : Memref sig .scVector .vmem S1x128 .i32 :=
  (sV.slice (Rect.unit (s := S2x1x128) ![n % 2, 0, 0] S1x1x128.size (inb_slotI n)) (fun _ => rfl)).squeeze S1x128 squeezes_S1x1x128_S1x128
/-- Slot `n` of the row buffer. -/
abbrev slotO (n : ℕ) : Memref sig .scVector .vmem S128x128 .f32 :=
  (rV.slice (Rect.unit (s := S2x128x128) ![n % 2, 0, 0] S1x128x128.size (inb_slotO n)) (fun _ => rfl)).squeeze S128x128 squeezes_S1x128x128_S128x128
abbrev semI (n : ℕ) : DmaSem sig := ((cc0_scoped1.slice (Rect.unit (s := S2) ![n % 2] S1.size (inb_sem n))).squeeze S_ squeezes_S1_S_).sem
abbrev semO (n : ℕ) : DmaSem sig := ((cc0_scoped3.slice (Rect.unit (s := S2) ![n % 2] S1.size (inb_sem n))).squeeze S_ squeezes_S1_S_).sem
/-- All of the table, as the gather addresses it. -/
abbrev tAll : Memref sig .scVector .hbm S1000000x128 .f32 :=
  tV.slice (Rect.unit (s := S1000000x128) ![0, 0] S1000000x128.size inb_S1000000x128_S1000000x128_0_0) (fun _ => rfl)
/-- Slot `n` of the index buffer as a list of row numbers. -/
abbrev offsI (n : ℕ) : Memref sig .scVector .vmem S128 .i32 :=
  ((slotI n).slice (Rect.unit (s := S1x128) ![0, 0] S1x128.size inb_S1x128_S1x128_0_0) (fun _ => rfl)).squeeze S128 squeezes_S1x128_S128

/-! The same pieces at offsets a program computed. -/

theorem idxBlk_of (b : ℕ) {o : Fin 2 → ℕ} (h : o = ![0, 128 * (b % 128)]) (p : ∀ a, o a + S1x128.size a ≤ S1x16384.size a) :
    iV.slice (Rect.unit (s := S1x16384) o S1x128.size p) (fun _ => rfl) = idxBlk b := by subst h; rfl
theorem outBlk_of (b : ℕ) {o : Fin 2 → ℕ} (h : o = ![128 * (b % 128), 0]) (p : ∀ a, o a + S128x128.size a ≤ S16384x128.size a) :
    oV.slice (Rect.unit (s := S16384x128) o S128x128.size p) (fun _ => rfl) = outBlk b := by subst h; rfl
theorem slotI_of (n : ℕ) {o : Fin 3 → ℕ} (h : o = ![n % 2, 0, 0]) (p : ∀ a, o a + S1x1x128.size a ≤ S2x1x128.size a) :
    (sV.slice (Rect.unit (s := S2x1x128) o S1x1x128.size p) (fun _ => rfl)).squeeze S1x128 squeezes_S1x1x128_S1x128 = slotI n := by
  subst h; rfl
theorem offsI_of (n : ℕ) {o : Fin 3 → ℕ} (h : o = ![n % 2, 0, 0]) (p : ∀ a, o a + S1x1x128.size a ≤ S2x1x128.size a) :
    (((sV.slice (Rect.unit (s := S2x1x128) o S1x1x128.size p) (fun _ => rfl)).squeeze S1x128 squeezes_S1x1x128_S1x128).slice
      (Rect.unit (s := S1x128) ![0, 0] S1x128.size inb_S1x128_S1x128_0_0) (fun _ => rfl)).squeeze S128 squeezes_S1x128_S128 = offsI n := by
  subst h; rfl
theorem slotO_of (n : ℕ) {o : Fin 3 → ℕ} (h : o = ![n % 2, 0, 0]) (p : ∀ a, o a + S1x128x128.size a ≤ S2x128x128.size a) :
    (rV.slice (Rect.unit (s := S2x128x128) o S1x128x128.size p) (fun _ => rfl)).squeeze S128x128 squeezes_S1x128x128_S128x128 = slotO n := by
  subst h; rfl
theorem semI_of (n : ℕ) {o : Fin 1 → ℕ} (h : o = ![n % 2]) (p : ∀ a, o a + S1.size a ≤ S2.size a) :
    ((cc0_scoped1.slice (Rect.unit (s := S2) o S1.size p)).squeeze S_ squeezes_S1_S_).sem = semI n := by subst h; rfl
theorem semO_of (n : ℕ) {o : Fin 1 → ℕ} (h : o = ![n % 2]) (p : ∀ a, o a + S1.size a ≤ S2.size a) :
    ((cc0_scoped3.slice (Rect.unit (s := S2) o S1.size p)).squeeze S_ squeezes_S1_S_).sem = semO n := by subst h; rfl

/-! Slots go by parity. -/

theorem semI_congr {n n' : ℕ} (h : n % 2 = n' % 2) : semI n = semI n' := semI_of n' (by rw [h]) _
theorem semO_congr {n n' : ℕ} (h : n % 2 = n' % 2) : semO n = semO n' := semO_of n' (by rw [h]) _
theorem slotI_congr {n n' : ℕ} (h : n % 2 = n' % 2) : slotI n = slotI n' := slotI_of n' (by rw [h]) _
theorem slotO_congr {n n' : ℕ} (h : n % 2 = n' % 2) : slotO n = slotO n' := slotO_of n' (by rw [h]) _

theorem semI_even : semI 0 = 0 := by decide
theorem semI_odd : semI 1 = 1 := by decide
theorem semO_even : semO 0 = 2 := by decide
theorem semO_odd : semO 1 = 3 := by decide

/-! ## What the gather computes -/

/-- The table's position at row `n` (the last row, if there is no row `n`) and column `c`. -/
def tIdx (n : ℕ) (c : Fin 128) : S1000000x128.Idx := Shape.pair (d := ![1000000, 128]) ⟨min n 999999, by simp⟩ c
/-- The index row's position `r`. -/
def iIdx (r : Fin 16384) : S1x16384.Idx := Shape.pair (d := ![1, 16384]) ⟨0, by simp⟩ r

/-- The rows the gather writes: row `r` is the table's row at word `r` of the index row. -/
def gOut (ft : S1000000x128.Idx → Elt F .f32) (fi : S1x16384.Idx → Elt F .i32) : S16384x128.Idx → Elt F .f32 :=
  fun x => ft (tIdx (BitVec.toNat (fi (iIdx (x 0)))) (x 1))

theorem emb_idxBlk (b : ℕ) (x : S1x128.Idx) :
    (idxBlk b).view.emb x = iIdx ⟨128 * (b % 128) + (x 1).val, by have h1 : (x 1).val < 128 := (x 1).isLt; have := Nat.mod_lt b (show 0 < 128 by decide); omega⟩ := by
  funext a; apply Fin.ext
  match a with
  | 0 => have h0 : (x 0).val < 1 := (x 0).isLt
         show 0 + 1 * (x 0).val = 0; omega
  | 1 => show 128 * (b % 128) + 1 * (x 1).val = 128 * (b % 128) + (x 1).val; omega

theorem emb_outBlk_zero (b : ℕ) (x : S128x128.Idx) : ((outBlk b).view.emb x 0).val = 128 * (b % 128) + (x 0).val := by
  show 128 * (b % 128) + 1 * (x 0).val = _; omega
theorem emb_outBlk_one (b : ℕ) (x : S128x128.Idx) : ((outBlk b).view.emb x 1).val = (x 1).val := by
  show 0 + 1 * (x 1).val = _; omega

theorem mem_outBlk (b : ℕ) (x : S16384x128.Idx) : x ∈ (outBlk b).view.set ↔ (x 0).val / 128 = b % 128 := by
  have e : (outBlk b).view.set = (Rect.unit (s := S16384x128) ![128 * (b % 128), 0] S128x128.size (inb_out b)).set :=
    View.set_slice_whole _ _
  rw [e, Rect.mem_set_unit]
  have h1 : (x 1).val < 128 := (x 1).isLt
  constructor
  · intro h; have h0 := h 0
    have h0' : 128 * (b % 128) ≤ (x 0).val ∧ (x 0).val < 128 * (b % 128) + 128 := h0
    omega
  · intro h a
    match a with
    | 0 => show 128 * (b % 128) ≤ (x 0).val ∧ (x 0).val < 128 * (b % 128) + 128; omega
    | 1 => show 0 ≤ (x 1).val ∧ (x 1).val < 0 + 128; omega

theorem outBlk_disjoint {b b' : ℕ} (hb : b < 128) (hb' : b' < 128) (h : b ≠ b') : Disjoint (outBlk b).view.set (outBlk b').view.set := by
  rw [Finset.disjoint_left]; intro x h1 h2
  rw [mem_outBlk] at h1 h2; omega

theorem outBlk_cover : ((Finset.range 128).biUnion fun b => (outBlk b).view.set) = (Finset.univ : Finset S16384x128.Idx) := by
  ext x; simp only [Finset.mem_biUnion, Finset.mem_range, Finset.mem_univ, iff_true]
  have h0 : (x 0).val < 16384 := (x 0).isLt
  exact ⟨(x 0).val / 128, by omega, (mem_outBlk _ x).mpr (by omega)⟩

/-- The list's entry `x` is the slot's word `x`. -/
theorem read_offsI (n : ℕ) (f : (offsI n).view.ty.Contents (Elt F)) (x : S128.Idx) :
    (offsI n).view.read (Elt F) f x = (slotI n).view.read (Elt F) f (Shape.pair (d := ![1, 128]) ⟨0, by simp⟩ (x 0)) := by
  have e : (offsI n).view.emb x = (slotI n).view.emb (Shape.pair (d := ![1, 128]) ⟨0, by simp⟩ (x 0)) := by
    show (slotI n).view.emb ((Rect.unit (s := S1x128) ![0, 0] S1x128.size inb_S1x128_S1x128_0_0).emb
      (Shape.reshapeEquiv (s := S1x128) (s' := S128) squeezes_S1x128_S128.numel_eq x)) = _
    congr 1
    have hr : Shape.reshapeEquiv (s := S1x128) (s' := S128) squeezes_S1x128_S128.numel_eq x
        = Shape.pair (d := ![1, 128]) ⟨0, by simp⟩ (x 0) := by
      refine Shape.reshapeEquiv_eq_of_rowMajor _ ?_
      refine (Shape.rowMajor_pair_val (d := ![1, 128]) _ _).trans (Eq.trans ?_ (Shape.rowMajor_val_one (d := ![128]) x).symm)
      show 0 * 128 + (x 0).val = (x 0).val; omega
    rw [hr]; funext a; apply Fin.ext
    match a with
    | 0 => rfl
    | 1 => show 0 + 1 * (x 0).val = (x 0).val; omega
  exact congrArg f e

/-- Every word of the index row names a row of the table. -/
def InRange (fi : S1x16384.Idx → Elt F .i32) : Prop := ∀ x, BitVec.toNat (fi x) < 1000000

end Cert.Proof
-- ==== Proof.Copies.lean ====
module

public import proofs.«01_k».proof.Proof.Setup

@[expose] public section

/-! # Copies and their waits, of any memrefs

The three copies the gather kernel makes, at memrefs that are variables: a copy of a part of a shared buffer into a part of
the thread's own; a gather by a list of row numbers; and a copy of a part of its own out to elements held in write mode.
Each hands over what it moves, and its wait brings that back. -/

noncomputable section

namespace Cert.Proof.Copies

open Cert.KernelIdeal Cert.KernelIdeal.Gen

open Idealize.ShloMosaic
open Idealize.ShloMosaic.SparseCore (V)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Transfers (Flight MayWaits flight_alloc flight_creditUpdate flight_intro Flight_mono)
open Idealize.ShloMosaic.Tactic

variable {F : FTy → Type} [FloatOps F]

local notation "𝕄" => MM F
local notation:60 ℓ " ⇝[" I "]{" q "} " f:max " ⇒ " g:max " @ " W:max => willBeTo wmE ℓ I q f g W

variable (c : Thread nD τ)
variable {sp sp' : Space} {s s' : Shape} {e : EltTy}
variable {O : CellTallies nD τ sig (HIx 1)} {W : Waits sig (HIx 1)}

local notation "WP" => wp frame (wpE (defs₀ (F := F)) 𝒱₀ c none) Set.univ

/-- What a thread owes, at a record of waits that only adds local ones to `W`. -/
def OW (O : CellTallies nD τ sig (HIx 1)) (W : Waits sig (HIx 1)) : sProp 𝕄 :=
  iprop(∃ W', ⌜∀ p ∈ W', p ∈ W ∨ p.2 = none⌝ ∗ owes c O W')

/-- A copy from a part of a shared buffer, in flight, with the rest of the share. -/
def copyFl (sm : DmaSem sig) (src : Memref sig c.2.kind sp s e) (dst : Memref sig c.2.kind sp' s e) (q : PosShare TreeShare)
    (fs : Buf (Elt F) (src.view.loc c)) : sProp 𝕄 :=
  iprop(Flight countersEmb c (.dma sm) (default : HIx 1) dst.view.dmaCredit
      iprop((∃ f, ⌜∀ x, dst.view.read (Elt F) f x = src.view.read (Elt F) fs x⌝ ∗ (dst.view.loc c ↦[dst.view.set]{fullShare} f))
        ∗ (src.view.loc c ↦[src.view.set]{q} fs))
    ∗ (src.view.loc c ↦[Finset.univ \ src.view.set]{q} fs))

theorem wp_copy {Ψ : PUnit → sProp 𝕄} {src : Memref sig c.2.kind sp s e} {dst : Memref sig c.2.kind sp' s e} {sm : DmaSem sig} (hpos : 0 < s.numel)
    (q : PosShare TreeShare) (fs : Buf (Elt F) (src.view.loc c))
    {h1 : src.view.WordExact} {h2 : dst.view.WordExact} {h3 : DmaTarget.Typed (nD := nD) sp (.dma sm) (.here dst)} :
    iprop((src.view.loc c ↦{q} fs) ∗ (∃ f, dst.view.loc c ↦[dst.view.set]{fullShare} f) ∗ semVal (c, .dma sm) 0)
      ⊢ iprop((copyFl (F := F) c sm src dst q fs -∗ Ψ ⟨⟩) -∗ WP (Prog.lift (.enqueueDma src (.here dst) (.dma sm) h1 h2 h3)) Ψ) := by
  iintro ⟨Hi, ⟨%f, Hs⟩, Hv⟩ Hk
  ihave Hi := (pointsTo_split_subset (q := q) (f := fs) (S := Finset.univ) (Finset.subset_univ src.view.set)).1 $$ Hi
  icases Hi with ⟨Hi, Hir⟩
  iapply (Transfers.wp_dmaLocal countersEmb 𝒱₀ c none (src := src) (dst := dst) (via := .same) (default : HIx 1) dst.view.dmaCredit rfl
    (View.dmaCredit_pos _ hpos) (subset_refl _)) $$ [Hi Hs Hv]
  · isplitl [Hi]; · iexact Hi
    isplitl [Hs]; · iexact Hs
    iexact Hv
  iintro Hfl
  rw [wp_ret]; imodintro
  iapply Hk
  unfold copyFl
  isplitl [Hfl]
  · iapply (Flight_mono countersEmb c ?_) $$ Hfl
    iintro ⟨Hd, Hs⟩
    isplitl [Hd]
    · iexists _; isplitr
      swap; · iexact Hd
      ipureintro; intro x
      rw [View.read_write_of_mem _ _ (Finset.mem_univ x)]
    iexact Hs
  iexact Hir

/-- Any wait for a copy in flight: what it delivers. -/
theorem wp_wait {Ψ : PUnit → sProp 𝕄} {κ' : Kind} {e' : EltTy} {srcw : Memref sig c.2.kind sp s e'} {dstw : Memref sig κ' sp' s' e} {sm : DmaSem sig}
    {h1 : srcw.view.WordExact} {h2 : dstw.view.WordExact} {N : ℕ} (hN : dstw.view.dmaCredit = N) {D : sProp 𝕄} :
    iprop(Flight countersEmb c (.dma sm) (default : HIx 1) N D ∗ OW c O W ∗ MayWaits c (default : HIx 1) O)
      ⊢ iprop((iprop(D ∗ semVal (c, .dma sm) 0 ∗ OW c O W) -∗ Ψ ⟨⟩) -∗ WP (Prog.lift (.waitDma2 sm srcw dstw h1 h2)) Ψ) := by
  unfold OW
  iintro ⟨Hfl, ⟨%W', %hW, HO⟩, Hmw⟩ Hk
  iapply (Transfers.wp_waitLocalO countersEmb 𝒱₀ c none (default : HIx 1) hN) $$ [Hfl HO Hmw]
  · isplitl [Hfl]; · iexact Hfl
    isplitl [HO]; · iexact HO
    iapply (MayWaits.elim (SemLoc.dma sm)) $$ Hmw
  iintro ⟨HD, Hv, HO⟩
  rw [wp_ret]; imodintro
  iapply Hk
  isplitl [HD]; · iexact HD
  isplitl [Hv]; · iexact Hv
  iexists _; isplitr
  swap; · iexact HO
  ipureintro; intro p hp
  rcases Finset.mem_insert.mp hp with hp | hp; · exact .inr (hp ▸ rfl)
  exact hW p hp

theorem wp_copyWait {Ψ : PUnit → sProp 𝕄} {src : Memref sig c.2.kind sp s e} {dst : Memref sig c.2.kind sp' s e} {sm : DmaSem sig}
    (q : PosShare TreeShare) (fs : Buf (Elt F) (src.view.loc c)) {h1 : src.view.WordExact} {h2 : dst.view.WordExact} :
    iprop(copyFl (F := F) c sm src dst q fs ∗ OW c O W ∗ MayWaits c (default : HIx 1) O)
      ⊢ iprop((iprop((src.view.loc c ↦{q} fs)
            ∗ (∃ f, ⌜∀ x, dst.view.read (Elt F) f x = src.view.read (Elt F) fs x⌝ ∗ (dst.view.loc c ↦[dst.view.set]{fullShare} f))
            ∗ semVal (c, .dma sm) 0 ∗ OW c O W) -∗ Ψ ⟨⟩)
          -∗ WP (Prog.lift (.waitDma2 sm src dst h1 h2)) Ψ) := by
  unfold copyFl
  iintro ⟨⟨Hfl, Hir⟩, HO, Hmw⟩ Hk
  iapply (wp_wait c (sm := sm) (rfl : dst.view.dmaCredit = _)) $$ [Hfl HO Hmw]
  · isplitl [Hfl]; · iexact Hfl
    isplitl [HO] <;> iassumption
  iintro ⟨⟨Hd, Hi⟩, Hv, HO⟩
  iapply Hk
  isplitl [Hi Hir]
  · iapply (pointsTo_split_subset (q := q) (f := fs) (S := Finset.univ) (Finset.subset_univ src.view.set)).2
    isplitl [Hi] <;> iassumption
  isplitl [Hd]; · iexact Hd
  isplitl [Hv] <;> iassumption

/-- A copy out to elements in write mode, in flight. -/
def outFl (sm : DmaSem sig) (src : Memref sig c.2.kind sp s e) (dst : Memref sig c.2.kind sp' s e) (q : PosShare TreeShare)
    (f₀ : Buf (Elt F) (dst.view.loc c)) (g : Tgt (Elt F) (dst.view.loc c)) : sProp 𝕄 :=
  Flight countersEmb c (.dma sm) (default : HIx 1) dst.view.dmaCredit
    iprop((dst.view.loc c ⇝[dst.view.set]{q} f₀ ⇒ g @ (dst.view.set)) ∗ (∃ f, src.view.loc c ↦[src.view.set]{fullShare} f))

theorem wp_out {Ψ : PUnit → sProp 𝕄} {src : Memref sig c.2.kind sp s e} {dst : Memref sig c.2.kind sp' s e} {sm : DmaSem sig} (hpos : 0 < s.numel)
    {ιwm : ℕ} (q : PosShare TreeShare) (f₀ : Buf (Elt F) (dst.view.loc c)) (g : Tgt (Elt F) (dst.view.loc c))
    (fs : Buf (Elt F) (src.view.loc c)) (hadm : dst.view.Admitted (Elt F) g (src.view.read (Elt F) fs) Finset.univ)
    {h1 : src.view.WordExact} {h2 : dst.view.WordExact} {h3 : DmaTarget.Typed (nD := nD) sp (.dma sm) (.here dst)} :
    iprop(wmInv (Ix := HIx 1) (Lvl := ℕ) wmE ιwm ∗ (src.view.loc c ↦[src.view.set]{fullShare} fs)
        ∗ (dst.view.loc c ⇝[dst.view.set]{q} f₀ ⇒ g @ (∅ : Finset (Idx (dst.view.loc c)))) ∗ semVal (c, .dma sm) 0)
      ⊢ iprop((outFl (F := F) c sm src dst q f₀ g -∗ Ψ ⟨⟩) -∗ WP (Prog.lift (.enqueueDma src (.here dst) (.dma sm) h1 h2 h3)) Ψ) := by
  iintro ⟨#Hwm, Hs, Ho, Hv⟩ Hk
  imod (flight_alloc countersEmb (View.dmaCredit_pos dst.view hpos)
      iprop((dst.view.loc c ⇝[dst.view.set]{q} f₀ ⇒ g @ (∅ ∪ dst.view.set)) ∗ (src.view.loc c ↦[src.view.set]{fullShare} fs))
      (g := (c, .dma sm))) $$ Hv with ⟨%γ, %δ, %κ, #Hinv, Hγ, Hδ⟩
  iapply (wp_enqueueDma_willBeTo 𝒱₀ c none Set.univ (default : HIx 1) dst.view.dmaCredit rfl hadm) $$ [Hs Ho] [Hγ]
  · isplitl [Hs]; · iexact Hs
    isplitr; · iexact Hwm
    iexact Ho
  · iapply (flight_creditUpdate countersEmb (δ := δ))
    isplitr; · iexact Hinv
    iexact Hγ
  iintro Hcred
  rw [wp_ret]; imodintro
  iapply Hk
  unfold outFl
  rw [← Finset.empty_union (dst.view.set)]
  iapply (Flight_mono countersEmb c (D := iprop((dst.view.loc c ⇝[dst.view.set]{q} f₀ ⇒ g @ (∅ ∪ dst.view.set)) ∗ (src.view.loc c ↦[src.view.set]{fullShare} fs))) ?_)
  · iintro ⟨Hd, Hs⟩
    rw [Finset.empty_union]
    isplitl [Hd]; · iexact Hd
    iexists _; iexact Hs
  · iapply (flight_intro countersEmb c (κ := κ))
    isplitr; · iexact Hinv
    isplitl [Hδ] <;> iassumption

theorem wp_outWait {Ψ : PUnit → sProp 𝕄} {src : Memref sig c.2.kind sp s e} {dst : Memref sig c.2.kind sp' s e} {sm : DmaSem sig}
    (q : PosShare TreeShare) (f₀ : Buf (Elt F) (dst.view.loc c)) (g : Tgt (Elt F) (dst.view.loc c)) {h1 : src.view.WordExact} {h2 : dst.view.WordExact} :
    iprop(outFl (F := F) c sm src dst q f₀ g ∗ OW c O W ∗ MayWaits c (default : HIx 1) O)
      ⊢ iprop((iprop((dst.view.loc c ⇝[dst.view.set]{q} f₀ ⇒ g @ (dst.view.set)) ∗ (∃ f, src.view.loc c ↦[src.view.set]{fullShare} f)
            ∗ semVal (c, .dma sm) 0 ∗ OW c O W) -∗ Ψ ⟨⟩)
          -∗ WP (Prog.lift (.waitDma2 sm src dst h1 h2)) Ψ) := by
  unfold outFl
  iintro ⟨Hfl, HO, Hmw⟩ Hk
  iapply (wp_wait c (sm := sm) (rfl : dst.view.dmaCredit = _)) $$ [Hfl HO Hmw]
  · isplitl [Hfl]; · iexact Hfl
    isplitl [HO] <;> iassumption
  iintro ⟨⟨Hd, Hs⟩, Hv, HO⟩
  iapply Hk
  isplitl [Hd]; · iexact Hd
  isplitl [Hs]; · iexact Hs
  isplitl [Hv] <;> iassumption

section Gather

variable {s₀ si : Shape} {a : ℕ}

/-- A gather in flight, of a share of the source by the row numbers `offs` at contents `fo`, with the rest of the source's
share and of the elements `S` the list lies in. -/
def gatherFl (sm : DmaSem sig) (src : Memref sig c.2.kind sp s₀ e) (dst : Memref sig c.2.kind .vmem s e) (hg : s₀.Gathers a s)
    (offs : Memref sig c.2.kind .vmem si .i32) (hn : si.numel = s.size hg.axis') (q : PosShare TreeShare) (fs : Buf (Elt F) (src.view.loc c))
    (S : Finset (Idx (offs.view.loc c))) (fo : Buf (Elt F) (offs.view.loc c))
    (hin : ∀ x, (offs.view.read (Elt F) fo x).toNat < s₀.size hg.axis) : sProp 𝕄 :=
  iprop(Flight countersEmb c (.dma sm) (default : HIx 1) dst.view.dmaCredit
      iprop((∃ f, ⌜∀ x, dst.view.read (Elt F) f x = SparseCore.gatherPayload hg (src.view.read (Elt F) fs)
              (SparseCore.rows (offs.view.read (Elt F) fo) hn hin) x⌝ ∗ (dst.view.loc c ↦[dst.view.set]{fullShare} f))
        ∗ (src.view.loc c ↦[src.view.set]{q} fs) ∗ (offs.view.loc c ↦[offs.view.set]{fullShare} fo))
    ∗ (src.view.loc c ↦[Finset.univ \ src.view.set]{q} fs) ∗ (offs.view.loc c ↦[S \ offs.view.set]{fullShare} fo))

theorem wp_gather {Ψ : PUnit → sProp 𝕄} {src : Memref sig c.2.kind sp s₀ e} {dst : Memref sig c.2.kind .vmem s e} {hg : s₀.Gathers a s}
    {offs : Memref sig c.2.kind .vmem si .i32} {hn : si.numel = s.size hg.axis'} {sm : DmaSem sig}
    {hp : c.2.kind = .scVector} {hsrc : src.view.WordExact} {he : e.bits = 32} {hsp : sp = .hbm ∨ sp = .shared} {hr : s₀.StreamRows a}
    (hN : ∑ j, (dst.slice (s.rowRect hg.axis' j) (s.stride_rowRect hg.axis' j)).view.dmaCredit = dst.view.dmaCredit)
    (hpos : 0 < s.numel) (q : PosShare TreeShare) (fs : Buf (Elt F) (src.view.loc c))
    (S : Finset (Idx (offs.view.loc c))) (hS : offs.view.set ⊆ S) (fo : Buf (Elt F) (offs.view.loc c))
    (hin : ∀ x, (offs.view.read (Elt F) fo x).toNat < s₀.size hg.axis) :
    iprop((src.view.loc c ↦{q} fs) ∗ (∃ f, dst.view.loc c ↦[dst.view.set]{fullShare} f) ∗ (offs.view.loc c ↦[S]{fullShare} fo)
        ∗ semVal (c, .dma sm) 0)
      ⊢ iprop((gatherFl (F := F) c sm src dst hg offs hn q fs S fo hin -∗ Ψ ⟨⟩)
          -∗ WP (SparseCore.enqueueIndirectGather hp src dst hg offs hn sm hsrc he hsp hr) Ψ) := by
  iintro ⟨Ht, ⟨%f, Hd⟩, Ho, Hv⟩ Hk
  ihave Ht := (pointsTo_split_subset (q := q) (f := fs) (S := Finset.univ) (Finset.subset_univ src.view.set)).1 $$ Ht
  icases Ht with ⟨Ht, Htr⟩
  ihave Ho := (pointsTo_split_subset (q := fullShare) (f := fo) hS).1 $$ Ho
  icases Ho with ⟨Ho, Hor⟩
  rw [← bind_pure (SparseCore.enqueueIndirectGather hp src dst hg offs hn sm hsrc he hsp hr)]
  iapply (SparseCore.wp_indirectGatherLocal countersEmb 𝒱₀ c none (hg := hg) (default : HIx 1) dst.view.dmaCredit hN hpos hin) $$ [Ht Hd Ho Hv]
  · isplitl [Ht]; · iexact Ht
    isplitl [Hd]; · iexact Hd
    isplitl [Ho] <;> iassumption
  iintro Hfl
  rw [wp_pure]; imodintro
  iapply Hk
  unfold gatherFl
  isplitl [Hfl]
  · iapply (Flight_mono countersEmb c ?_) $$ Hfl
    iintro ⟨Hd, Hs⟩
    isplitl [Hd]
    · iexists _; isplitr
      swap; · iexact Hd
      ipureintro; intro x
      rw [View.read_write_of_mem _ _ (Finset.mem_univ x)]
    iexact Hs
  isplitl [Htr] <;> iassumption

theorem wp_gatherWait {Ψ : PUnit → sProp 𝕄} {sp₁ : Space} {s₁ : Shape} {e₁ : EltTy} {srcw : Memref sig c.2.kind sp₁ s₁ e₁}
    {src : Memref sig c.2.kind sp s₀ e} {dst : Memref sig c.2.kind .vmem s e} {hg : s₀.Gathers a s}
    {offs : Memref sig c.2.kind .vmem si .i32} {hn : si.numel = s.size hg.axis'} {sm : DmaSem sig}
    (q : PosShare TreeShare) (fs : Buf (Elt F) (src.view.loc c))
    (S : Finset (Idx (offs.view.loc c))) (hS : offs.view.set ⊆ S) (fo : Buf (Elt F) (offs.view.loc c))
    (hin : ∀ x, (offs.view.read (Elt F) fo x).toNat < s₀.size hg.axis) {h1 : srcw.view.WordExact} {h2 : dst.view.WordExact} :
    iprop(gatherFl (F := F) c sm src dst hg offs hn q fs S fo hin ∗ OW c O W ∗ MayWaits c (default : HIx 1) O)
      ⊢ iprop((iprop((src.view.loc c ↦{q} fs)
            ∗ (∃ f, ⌜∀ x, dst.view.read (Elt F) f x = SparseCore.gatherPayload hg (src.view.read (Elt F) fs)
              (SparseCore.rows (offs.view.read (Elt F) fo) hn hin) x⌝ ∗ (dst.view.loc c ↦[dst.view.set]{fullShare} f))
            ∗ (offs.view.loc c ↦[S]{fullShare} fo) ∗ semVal (c, .dma sm) 0 ∗ OW c O W) -∗ Ψ ⟨⟩)
          -∗ WP (SparseCore.waitIndirectGather sm srcw dst h1 h2) Ψ) := by
  unfold gatherFl
  iintro ⟨⟨Hfl, Htr, Hor⟩, HO, Hmw⟩ Hk
  rw [show SparseCore.waitIndirectGather sm srcw dst h1 h2
    = Prog.lift (TpuEff.waitDma2 (nD := nD) (Val := Elt F) (Λ := Λ₀) sm srcw dst h1 h2) from rfl]
  iapply (wp_wait c (sm := sm) (srcw := srcw) (h1 := h1) (h2 := h2) (rfl : dst.view.dmaCredit = _)) $$ [Hfl HO Hmw]
  · isplitl [Hfl]; · iexact Hfl
    isplitl [HO] <;> iassumption
  iintro ⟨⟨Hd, Ht, Ho⟩, Hv, HO⟩
  iapply Hk
  isplitl [Ht Htr]
  · iapply (pointsTo_split_subset (q := q) (f := fs) (S := Finset.univ) (Finset.subset_univ src.view.set)).2
    isplitl [Ht] <;> iassumption
  isplitl [Hd]; · iexact Hd
  isplitl [Ho Hor]
  · iapply (pointsTo_split_subset (q := fullShare) (f := fo) hS).2
    isplitl [Ho] <;> iassumption
  isplitl [Hv] <;> iassumption

end Gather

end Cert.Proof.Copies
-- ==== Proof.TileOps.lean ====
module

public import proofs.«01_k».proof.Proof.Copies

@[expose] public section

/-! # The gather kernel's copies, one rule each

What a tile of a SparseCore holds of each buffer, and what each of its copies and waits does to it: the copy of an index block
into a slot, the gather of the rows a slot's words name into a row slot, and the copy of a row slot out to its block of the
gathered rows. -/

noncomputable section

namespace Cert.Proof

open Cert.KernelIdeal Cert.KernelIdeal.Gen

open Idealize.ShloMosaic
open Idealize.ShloMosaic.SparseCore (V)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Transfers (Flight MayWaits)
open Idealize.ShloMosaic.Tactic

variable {F : FTy → Type} [FloatOps F]

local notation "𝕄" => MM F
local notation:60 ℓ " ⇝[" I "]{" q "} " f:max " ⇒ " g:max " @ " W:max => willBeTo wmE ℓ I q f g W

/-- The tile of SparseCore `i 0` and number `i 1`. -/
abbrev cV (i : grid0.Coords) : Fin τ.nSC := (i 0).castLE hcore0
abbrev jV (i : grid0.Coords) : Fin τ.nSub := (i 1).castLE hsub0
abbrev tile (d : Dev nD) (i : grid0.Coords) : Thread nD τ := V d (cV i) (jV i)

variable (d : Dev nD) (i : grid0.Coords)
variable (ft : S1000000x128.Idx → Elt F .f32) (fi : S1x16384.Idx → Elt F .i32) (f₀ : S16384x128.Idx → Elt F .f32)

/-! ## What a tile holds -/

/-- Slot `n` of the index buffer at contents `f`. -/
def sPts (n : ℕ) (f : S2x1x128.Idx → Elt F .i32) : sProp 𝕄 :=
  (slotI n).view.loc (tile d i) ↦[(slotI n).view.set]{fullShare} f
/-- Slot `n` of the index buffer, holding block `b` of the index row. -/
def sHas (n b : ℕ) : sProp 𝕄 :=
  iprop(∃ f, ⌜∀ x, (slotI n).view.read (Elt F) f x = (idxBlk b).view.read (Elt F) fi x⌝ ∗ sPts d i n f)
def sAny (n : ℕ) : sProp 𝕄 := iprop(∃ f, sPts (F := F) d i n f)
def rPts (n : ℕ) (f : S2x128x128.Idx → Elt F .f32) : sProp 𝕄 :=
  (slotO n).view.loc (tile d i) ↦[(slotO n).view.set]{fullShare} f
/-- Slot `n` of the row buffer, holding block `b` of the gathered rows. -/
def rHas (n b : ℕ) : sProp 𝕄 :=
  iprop(∃ f, ⌜∀ x, (slotO n).view.read (Elt F) f x = (outBlk b).view.read (Elt F) (gOut ft fi) x⌝ ∗ rPts d i n f)
def rAny (n : ℕ) : sProp 𝕄 := iprop(∃ f, rPts (F := F) d i n f)

/-- Block `b` of the gathered rows, to hold what the gather computes; not yet written, and written. -/
def oTodo (q : PosShare TreeShare) (b : ℕ) : sProp 𝕄 :=
  oLoc d ⇝[(outBlk b).view.set]{q} f₀ ⇒ (fun x => some (gOut ft fi x)) @ (∅ : Finset S16384x128.Idx)
def oDone (q : PosShare TreeShare) (b : ℕ) : sProp 𝕄 :=
  oLoc d ⇝[(outBlk b).view.set]{q} f₀ ⇒ (fun x => some (gOut ft fi x)) @ ((outBlk b).view.set)

/-- What the tile owes. -/
abbrev OW (O : CellTallies nD τ sig (HIx 1)) (W : Waits sig (HIx 1)) : sProp 𝕄 := Copies.OW (tile d i) O W

/-- The copy of index block `b` into slot `n`, in flight. -/
def inFl (q : PosShare TreeShare) (n b : ℕ) : sProp 𝕄 := Copies.copyFl (F := F) (tile d i) (semI n) (idxBlk b) (slotI n) q fi
/-- The copy of row slot `n` out to block `b`, in flight. -/
def outFl (q : PosShare TreeShare) (n b : ℕ) : sProp 𝕄 :=
  Copies.outFl (F := F) (tile d i) (semO n) (slotO n) (outBlk b) q f₀ (fun x => some (gOut ft fi x))

variable {O : CellTallies nD τ sig (HIx 1)} {W : Waits sig (HIx 1)}

local notation "WP" => wp frame (wpE (defs₀ (F := F)) 𝒱₀ (tile d i) none) Set.univ

/-! ## The index block comes in -/

theorem wp_inStart {Ψ : PUnit → sProp 𝕄} (q : PosShare TreeShare) (n b : ℕ) {src : Memref sig .scVector .hbm S1x128 .i32} {dst : Memref sig .scVector .vmem S1x128 .i32}
    {sm : DmaSem sig} (hs : src = idxBlk b) (hd : dst = slotI n) (hm : sm = semI n)
    {h1 : src.view.WordExact} {h2 : dst.view.WordExact} {h3 : DmaTarget.Typed (nD := nD) (p := (tile d i).2) .hbm (.dma sm) (.here dst)} :
    iprop((iLoc d ↦{q} fi) ∗ sAny d i n ∗ semVal (tile d i, .dma (semI n)) 0)
      ⊢ iprop((inFl d i fi q n b -∗ Ψ ⟨⟩) -∗ WP (Prog.lift (.enqueueDma src (.here dst) (.dma sm) h1 h2 h3)) Ψ) := by
  subst hs hd hm
  exact Copies.wp_copy (tile d i) (src := idxBlk b) (dst := slotI n) (by decide) q fi

theorem wp_inWait {Ψ : PUnit → sProp 𝕄} (q : PosShare TreeShare) (n b : ℕ) {src : Memref sig .scVector .hbm S1x128 .i32} {dst : Memref sig .scVector .vmem S1x128 .i32}
    {sm : DmaSem sig} (hs : src = idxBlk b) (hd : dst = slotI n) (hm : sm = semI n)
    {h1 : src.view.WordExact} {h2 : dst.view.WordExact} :
    iprop(inFl d i fi q n b ∗ OW d i O W ∗ MayWaits (tile d i) (default : HIx 1) O)
      ⊢ iprop((iprop((iLoc d ↦{q} fi) ∗ sHas d i fi n b ∗ semVal (tile d i, .dma (semI n)) 0 ∗ OW d i O W) -∗ Ψ ⟨⟩)
          -∗ WP (Prog.lift (.waitDma2 sm src dst h1 h2)) Ψ) := by
  subst hs hd hm
  exact Copies.wp_copyWait (tile d i) (src := idxBlk b) (dst := slotI n) q fi

/-! ## The gather -/

theorem sub_offsI (n : ℕ) : (offsI n).view.set ⊆ (slotI n).view.set := by
  show (((slotI n).view.slice (Rect.unit (s := S1x128) ![0, 0] S1x128.size inb_S1x128_S1x128_0_0)).reshape S128
    squeezes_S1x128_S128.numel_eq).set ⊆ _
  rw [View.set_reshape]; exact View.set_slice_subset _ _

theorem read_has {n b : ℕ} {f : Buf (Elt F) ((slotI n).view.loc (tile d i))}
    (h : ∀ x, (slotI n).view.read (Elt F) f x = (idxBlk b).view.read (Elt F) fi x) (x : S128.Idx) :
    (offsI n).view.read (Elt F) f x
      = fi (iIdx ⟨128 * (b % 128) + (x 0).val, by have h1 : (x 0).val < 128 := (x 0).isLt; have := Nat.mod_lt b (show 0 < 128 by decide); omega⟩) := by
  rw [read_offsI, h]
  exact congrArg fi (emb_idxBlk b _)

theorem has_inRange (hr : InRange fi) {n b : ℕ} {f : Buf (Elt F) ((slotI n).view.loc (tile d i))}
    (h : ∀ x, (slotI n).view.read (Elt F) f x = (idxBlk b).view.read (Elt F) fi x) :
    ∀ x, ((offsI n).view.read (Elt F) f x).toNat < S1000000x128.size gathers_S1000000x128_S128x128.axis := by
  intro x; rw [read_has d i fi h]; exact hr _

theorem gathered (hr : InRange fi) {n b : ℕ} {f : Buf (Elt F) ((slotI n).view.loc (tile d i))}
    (h : ∀ x, (slotI n).view.read (Elt F) f x = (idxBlk b).view.read (Elt F) fi x) (x : S128x128.Idx) :
    SparseCore.gatherPayload gathers_S1000000x128_S128x128 (tAll.view.read (Elt F) ft)
        (SparseCore.rows ((offsI n).view.read (Elt F) f) rfl (has_inRange d i fi hr h)) x
      = (outBlk b).view.read (Elt F) (gOut ft fi) x := by
  have hx : ((S128.rowMajor.symm ((x 0).cast rfl)) 0).val = (x 0).val := by
    rw [← Shape.rowMajor_val_one (d := ![128]) (S128.rowMajor.symm ((x 0).cast rfl))]
    show (S128.rowMajor (S128.rowMajor.symm ((x 0).cast rfl))).val = _
    rw [Equiv.apply_symm_apply]; rfl
  show ft _ = ft _
  congr 1
  funext a; apply Fin.ext
  match a with
  | 0 =>
    have e0 : (gathers_S1000000x128_S128x128.idx (SparseCore.rows ((offsI n).view.read (Elt F) f) rfl (has_inRange d i fi hr h)) x 0)
        = SparseCore.rows ((offsI n).view.read (Elt F) f) rfl (has_inRange d i fi hr h) (x 0) :=
      Shape.Gathers.idx_axis gathers_S1000000x128_S128x128 _ x
    have e1 : (SparseCore.rows ((offsI n).view.read (Elt F) f) rfl (has_inRange d i fi hr h) (x 0)).val
        = (fi (iIdx ((outBlk b).view.emb x 0))).toNat := by
      show ((offsI n).view.read (Elt F) f (S128.rowMajor.symm ((x 0).cast rfl))).toNat = _
      rw [read_has d i fi h]
      congr 3
      apply Fin.ext
      rw [emb_outBlk_zero]
      show 128 * (b % 128) + _ = _
      rw [hx]
    have hlt := hr (iIdx ((outBlk b).view.emb x 0))
    show 0 + 1 * (gathers_S1000000x128_S128x128.idx _ x 0).val = min (fi (iIdx ((outBlk b).view.emb x 0))).toNat 999999
    rw [e0, e1]; omega
  | 1 =>
    have e0 : (gathers_S1000000x128_S128x128.idx (SparseCore.rows ((offsI n).view.read (Elt F) f) rfl (has_inRange d i fi hr h)) x 1).val
        = (x 1).val :=
      Shape.Gathers.idx_of_ne gathers_S1000000x128_S128x128 _ x 1 (by decide)
    show 0 + 1 * (gathers_S1000000x128_S128x128.idx _ x 1).val = ((outBlk b).view.emb x 1).val
    rw [e0, emb_outBlk_one]; omega

theorem rowCredits (n : ℕ) : ∑ j, ((slotO n).slice (S128x128.rowRect gathers_S1000000x128_S128x128.axis' j)
    (S128x128.stride_rowRect gathers_S1000000x128_S128x128.axis' j)).view.dmaCredit = (slotO n).view.dmaCredit := by
  have h : ∑ j, ((slotO 0).slice (S128x128.rowRect gathers_S1000000x128_S128x128.axis' j)
    (S128x128.stride_rowRect gathers_S1000000x128_S128x128.axis' j)).view.dmaCredit = (slotO 0).view.dmaCredit := by decide
  exact h

theorem wp_gather {Ψ : PUnit → sProp 𝕄} (hr : InRange fi) (q : PosShare TreeShare) (n n' b : ℕ)
    {src src' : Memref sig .scVector .hbm S1000000x128 .f32} {dst dst' : Memref sig .scVector .vmem S128x128 .f32}
    {offs : Memref sig .scVector .vmem S128 .i32} (hs : src = tAll) (hs' : src' = tAll) (hd : dst = slotO n') (hd' : dst' = slotO n') (ho : offs = offsI n)
    {hp : (tile d i).2.kind = .scVector} {hsrc : src.view.WordExact} {he : EltTy.f32.bits = 32} {hsp : Space.hbm = .hbm ∨ Space.hbm = .shared}
    {hst : S1000000x128.StreamRows 0} {hn : S128.numel = S128x128.size gathers_S1000000x128_S128x128.axis'}
    {h1 : src'.view.WordExact} {h2 : dst'.view.WordExact} :
    iprop((tLoc d ↦{q} ft) ∗ rAny d i n' ∗ sHas d i fi n b ∗ semVal (tile d i, .dma cc0_scoped4.sem) 0 ∗ OW d i O W
        ∗ MayWaits (tile d i) (default : HIx 1) O)
      ⊢ iprop((iprop((tLoc d ↦{q} ft) ∗ rHas d i ft fi n' b ∗ sAny d i n ∗ semVal (tile d i, .dma cc0_scoped4.sem) 0 ∗ OW d i O W) -∗ Ψ ⟨⟩)
          -∗ WP (SparseCore.enqueueIndirectGather (p := (tile d i).2) hp src dst gathers_S1000000x128_S128x128 offs hn cc0_scoped4.sem hsrc he hsp hst)
            fun _ => WP (SparseCore.waitIndirectGather (p := (tile d i).2) cc0_scoped4.sem src' dst' h1 h2) Ψ) := by
  subst hs hs' hd hd' ho
  unfold rAny rPts sHas sPts
  iintro ⟨Ht, Hr, ⟨%f, %hf, Hs⟩, Hv, HO, Hmw⟩ Hk
  iapply (Copies.wp_gather (tile d i) (src := tAll) (dst := slotO n') (offs := offsI n) (rowCredits n') (by decide) q ft
    (slotI n).view.set (sub_offsI n) f (has_inRange d i fi hr hf)) $$ [Ht Hr Hs Hv]
  · isplitl [Ht]; · iexact Ht
    isplitl [Hr]; · iexact Hr
    isplitl [Hs]; · iexact Hs
    iexact Hv
  iintro Hfl
  iapply (Copies.wp_gatherWait (tile d i) (src := tAll) (dst := slotO n') (offs := offsI n) q ft
    (slotI n).view.set (sub_offsI n) f (has_inRange d i fi hr hf)) $$ [Hfl HO Hmw]
  · isplitl [Hfl]; · iexact Hfl
    isplitl [HO] <;> iassumption
  iintro ⟨Ht, ⟨%fr, %hfr, Hr⟩, Hs, Hv, HO⟩
  iapply Hk
  isplitl [Ht]; · iexact Ht
  isplitl [Hr]
  · unfold rHas rPts
    iexists fr; isplitr
    · ipureintro; intro x; rw [hfr x]; exact gathered d i ft fi hr hf x
    iexact Hr
  isplitl [Hs]
  · unfold sAny sPts; iexists f; iexact Hs
  isplitl [Hv] <;> iassumption

/-! ## The rows go out -/

theorem wp_outStart {Ψ : PUnit → sProp 𝕄} {ιwm : ℕ} (q : PosShare TreeShare) (n b : ℕ) {src : Memref sig .scVector .vmem S128x128 .f32} {dst : Memref sig .scVector .hbm S128x128 .f32}
    {sm : DmaSem sig} (hs : src = slotO n) (hd : dst = outBlk b) (hm : sm = semO n)
    {h1 : src.view.WordExact} {h2 : dst.view.WordExact} {h3 : DmaTarget.Typed (nD := nD) (p := (tile d i).2) .vmem (.dma sm) (.here dst)} :
    iprop(wmInv (Ix := HIx 1) (Lvl := ℕ) wmE ιwm ∗ rHas d i ft fi n b ∗ oTodo d ft fi f₀ q b ∗ semVal (tile d i, .dma (semO n)) 0)
      ⊢ iprop((outFl d i ft fi f₀ q n b -∗ Ψ ⟨⟩) -∗ WP (Prog.lift (.enqueueDma src (.here dst) (.dma sm) h1 h2 h3)) Ψ) := by
  subst hs hd hm
  unfold rHas rPts oTodo
  iintro ⟨Hwm, ⟨%f, %hf, Hr⟩, Ho, Hv⟩
  have hadm : (outBlk b).view.Admitted (Elt F) (fun x => some (gOut ft fi x)) ((slotO n).view.read (Elt F) f) Finset.univ := by
    intro x _ u hu
    rw [hf x]
    exact Option.some.inj hu
  iapply (Copies.wp_out (tile d i) (src := slotO n) (dst := outBlk b) (by decide) q f₀ (fun x => some (gOut ft fi x)) f hadm)
  isplitl [Hwm]; · iexact Hwm
  isplitl [Hr]; · iexact Hr
  isplitl [Ho]; · iexact Ho
  iexact Hv

theorem wp_outWait {Ψ : PUnit → sProp 𝕄} (q : PosShare TreeShare) (n b : ℕ) {src : Memref sig .scVector .vmem S128x128 .f32} {dst : Memref sig .scVector .hbm S128x128 .f32}
    {sm : DmaSem sig} (hs : src = slotO n) (hd : dst = outBlk b) (hm : sm = semO n)
    {h1 : src.view.WordExact} {h2 : dst.view.WordExact} :
    iprop(outFl d i ft fi f₀ q n b ∗ OW d i O W ∗ MayWaits (tile d i) (default : HIx 1) O)
      ⊢ iprop((iprop(oDone d ft fi f₀ q b ∗ rAny d i n ∗ semVal (tile d i, .dma (semO n)) 0 ∗ OW d i O W) -∗ Ψ ⟨⟩)
          -∗ WP (Prog.lift (.waitDma2 sm src dst h1 h2)) Ψ) := by
  subst hs hd hm
  exact Copies.wp_outWait (tile d i) (src := slotO n) (dst := outBlk b) q f₀ (fun x => some (gOut ft fi x))

end Cert.Proof
-- ==== Proof.Tile.lean ====
module

public import proofs.«01_k».proof.Proof.TileOps

@[expose] public section

/-! # One trip of the gather kernel

A tile's eight trips, each over one block of 128 rows.  Before trip `t` the copy of index block `t` is in flight, and so, but
for the first trip, is the copy out of the rows of block `t - 1`; the trip starts the copy of the next index block, waits
for its own, gathers, starts the copy of its rows out, and waits for the one before. -/

noncomputable section

namespace Cert.Proof

open Cert.KernelIdeal Cert.KernelIdeal.Gen
open Cert.Proof.Words (cw)

open Idealize.ShloMosaic
open Idealize.ShloMosaic.SparseCore (V)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Transfers (Flight MayWaits)
open Idealize.ShloMosaic.Tactic

variable {F : FTy → Type} [FloatOps F]

local notation "𝕄" => MM F

variable (d : Dev nD) (i : grid0.Coords)
variable (ft : S1000000x128.Idx → Elt F .f32) (fi : S1x16384.Idx → Elt F .i32) (f₀ : S16384x128.Idx → Elt F .f32)
variable (qt qi qo : PosShare TreeShare) (O : CellTallies nD τ sig (HIx 1)) (W : Waits sig (HIx 1))

local notation "WP" => wp frame (wpE (defs₀ (F := F)) 𝒱₀ (tile d i) none) Set.univ

/-- The block of trip `t`. -/
abbrev blk (t : ℕ) : ℕ := 8 * (i 1).val + t
/-- The half of the index row's share that slot `n`'s copies use. -/
def half (n : ℕ) : PosShare TreeShare := if n % 2 = 0 then qi.left else qi.right

/-- Slot `n` of the index buffer at rest. -/
def idle (n : ℕ) : sProp 𝕄 := iprop((iLoc d ↦{half qi n} fi) ∗ sAny d i n ∗ semVal (tile d i, .dma (semI n)) 0)
/-- Slot `n` of the row buffer at rest. -/
def ridle (n : ℕ) : sProp 𝕄 := iprop(rAny (F := F) d i n ∗ semVal (tile d i, .dma (semO n)) 0)
/-- Slot `t` of the index buffer before trip `t`. -/
def inAt (t : ℕ) : sProp 𝕄 := if t < 8 then inFl d i fi (half qi t) t (blk i t) else idle d i fi qi t
/-- The other slot of the row buffer before trip `t`. -/
def outAt (t : ℕ) : sProp 𝕄 := if 0 < t then outFl d i ft fi f₀ qo (t - 1) (blk i (t - 1)) else ridle d i (t + 1)
/-- The blocks not yet written at trip `t`, and those that are. -/
def todo (t : ℕ) : sProp 𝕄 := bigSep (Finset.Ico t 8) fun u => oTodo d ft fi f₀ qo (blk i u)
def done (t : ℕ) : sProp 𝕄 := bigSep (Finset.range t) fun u => oDone d ft fi f₀ qo (blk i u)

theorem half_congr {n n' : ℕ} (h : n % 2 = n' % 2) : half qi n = half qi n' := by unfold half; rw [h]
theorem sAny_congr {n n' : ℕ} (h : n % 2 = n' % 2) : (sAny d i n : sProp 𝕄) = sAny d i n' :=
  congrArg (fun m : Memref sig .scVector .vmem S1x128 .i32 => (iprop(∃ f : Buf (Elt F) (m.view.loc (tile d i)),
    m.view.loc (tile d i) ↦[m.view.set]{fullShare} f) : sProp 𝕄)) (slotI_congr h)
theorem rAny_congr {n n' : ℕ} (h : n % 2 = n' % 2) : (rAny d i n : sProp 𝕄) = rAny d i n' :=
  congrArg (fun m : Memref sig .scVector .vmem S128x128 .f32 => (iprop(∃ f : Buf (Elt F) (m.view.loc (tile d i)),
    m.view.loc (tile d i) ↦[m.view.set]{fullShare} f) : sProp 𝕄)) (slotO_congr h)
theorem idle_congr {n n' : ℕ} (h : n % 2 = n' % 2) : idle d i fi qi n = idle d i fi qi n' := by
  unfold idle; rw [half_congr qi h, semI_congr h, sAny_congr d i h]
theorem ridle_congr {n n' : ℕ} (h : n % 2 = n' % 2) : (ridle d i n : sProp 𝕄) = ridle d i n' := by
  unfold ridle; rw [semO_congr h, rAny_congr d i h]
theorem todo_take {t : ℕ} (h : t < 8) :
    todo d i ft fi f₀ qo t = iprop(oTodo d ft fi f₀ qo (blk i t) ∗ todo d i ft fi f₀ qo (t + 1)) := by
  unfold todo
  rw [show Finset.Ico t 8 = insert t (Finset.Ico (t + 1) 8) by ext x; simp; omega, SparseCore.bigSep_insert' (by simp)]
theorem done_put (t : ℕ) :
    done d i ft fi f₀ qo (t + 1) = iprop(oDone d ft fi f₀ qo (blk i t) ∗ done d i ft fi f₀ qo t) := by
  unfold done
  rw [Finset.range_add_one, SparseCore.bigSep_insert' (by simp)]

/-- What holds before trip `t`, the counters being `acc`. -/
def inv (t : ℕ) (acc : BitVec 32 × BitVec 32 × BitVec 32 × BitVec 32 × BitVec 32) : sProp 𝕄 :=
  iprop(⌜acc = cw t⌝ ∗ inAt d i fi qi t ∗ idle d i fi qi (t + 1) ∗ outAt d i ft fi f₀ qo t ∗ ridle d i t
    ∗ (tLoc d ↦{qt} ft) ∗ semVal (tile d i, .dma cc0_scoped4.sem) 0 ∗ OW d i O W
    ∗ todo d i ft fi f₀ qo t ∗ done d i ft fi f₀ qo (t - 1))

theorem wp_check {P : Prop} {dec : Decidable P} (h : P) {Ψ : PLift P → sProp 𝕄} :
    Ψ ⟨h⟩ ⊢ WP (Prog.lift (TpuEff.assume P dec)) Ψ := by
  have hw : iprop(|={Set.univ}=> Ψ ⟨h⟩) ⊢ WP (Prog.lift (TpuEff.assume P dec)) Ψ := by
    exact wp_assume (k := Prog.ret) 𝒱₀ (tile d i) none Set.univ h
  iintro H; iapply hw; imodintro; iexact H

theorem firstOut {t : ℕ} (ht : t = 0) :
    iprop(MayWaits (tile d i) (default : HIx 1) O ∗ outAt d i ft fi f₀ qo t ∗ OW d i O W ∗ done d i ft fi f₀ qo (t - 1))
      ⊢ iprop(ridle d i (t + 1) ∗ OW d i O W ∗ done d i ft fi f₀ qo t) := by
  subst ht
  unfold outAt
  rw [if_neg (Nat.lt_irrefl 0)]
  iintro ⟨_, Ho, HO, Hdone⟩
  isplitl [Ho]; · iexact Ho
  isplitl [HO] <;> iassumption

/-- A step taken under a condition, before what runs in any case. -/
theorem wp_when {α : Type} {c : Prop} [Decidable c] {P R : sProp 𝕄} {A : c → Prog (TpuEff nD τ sig (Elt F) Λ₀ (tile d i).2) PUnit}
    {K : Prog (TpuEff nD τ sig (Elt F) Λ₀ (tile d i).2) α} {Ψ : α → sProp 𝕄}
    (hA : ∀ h : c, P ⊢ iprop((R -∗ WP K Ψ) -∗ WP (A h) fun _ => WP K Ψ)) (hN : ¬ c → P ⊢ R) :
    P ⊢ iprop((R -∗ WP K Ψ) -∗ WP (dite c (fun h => A h >>= fun _ => K) fun _ => K) Ψ) := by
  by_cases h : c
  · rw [dif_pos h, wp_bind]; exact hA h
  · rw [dif_neg h]
    iintro H HK; iapply HK; iapply (hN h); iexact H

theorem startNext {Φ : sProp 𝕄} {t : ℕ} (ht : t < 8) {src : Memref sig .scVector .hbm S1x128 .i32} {dst : Memref sig .scVector .vmem S1x128 .i32}
    {sm : DmaSem sig} (hs : src = idxBlk (blk i t)) (hd : dst = slotI t) (hm : sm = semI t)
    {h1 : src.view.WordExact} {h2 : dst.view.WordExact} {h3 : DmaTarget.Typed (nD := nD) (p := (tile d i).2) .hbm (.dma sm) (.here dst)} :
    idle d i fi qi t ⊢ iprop((inAt d i fi qi t -∗ Φ) -∗ WP (Prog.lift (.enqueueDma src (.here dst) (.dma sm) h1 h2 h3)) fun _ => Φ) := by
  unfold idle inAt
  rw [if_pos ht]
  exact wp_inStart (Ψ := fun _ => Φ) d i fi (half qi t) t (blk i t) hs hd hm

theorem waitOwn {Φ : sProp 𝕄} {t : ℕ} (ht : t < 8) {src : Memref sig .scVector .hbm S1x128 .i32} {dst : Memref sig .scVector .vmem S1x128 .i32}
    {sm : DmaSem sig} (hs : src = idxBlk (blk i t)) (hd : dst = slotI t) (hm : sm = semI t)
    {h1 : src.view.WordExact} {h2 : dst.view.WordExact} :
    iprop(MayWaits (tile d i) (default : HIx 1) O ∗ inAt d i fi qi t ∗ OW d i O W)
      ⊢ iprop((iprop((iLoc d ↦{half qi t} fi) ∗ sHas d i fi t (blk i t) ∗ semVal (tile d i, .dma (semI t)) 0 ∗ OW d i O W) -∗ Φ)
          -∗ WP (Prog.lift (.waitDma2 sm src dst h1 h2)) fun _ => Φ) := by
  unfold inAt
  rw [if_pos ht]
  iintro ⟨Hmw, Hfl, HO⟩
  iapply (wp_inWait (Ψ := fun _ => Φ) d i fi (half qi t) t (blk i t) hs hd hm)
  isplitl [Hfl]; · iexact Hfl
  isplitl [HO] <;> iassumption

theorem putOut {Φ : sProp 𝕄} {ιwm : ℕ} {t : ℕ} (ht : t < 8) {src : Memref sig .scVector .vmem S128x128 .f32} {dst : Memref sig .scVector .hbm S128x128 .f32}
    {sm : DmaSem sig} (hs : src = slotO t) (hd : dst = outBlk (blk i t)) (hm : sm = semO t)
    {h1 : src.view.WordExact} {h2 : dst.view.WordExact} {h3 : DmaTarget.Typed (nD := nD) (p := (tile d i).2) .vmem (.dma sm) (.here dst)} :
    iprop(wmInv (Ix := HIx 1) (Lvl := ℕ) wmE ιwm ∗ rHas d i ft fi t (blk i t) ∗ todo d i ft fi f₀ qo t ∗ semVal (tile d i, .dma (semO t)) 0)
      ⊢ iprop((iprop(outAt d i ft fi f₀ qo (t + 1) ∗ todo d i ft fi f₀ qo (t + 1)) -∗ Φ)
        -∗ WP (Prog.lift (.enqueueDma src (.here dst) (.dma sm) h1 h2 h3)) fun _ => Φ) := by
  rw [todo_take d i ft fi f₀ qo ht]
  unfold outAt
  rw [if_pos (Nat.succ_pos t), Nat.add_sub_cancel]
  iintro ⟨Hwm, Hr, ⟨Hb, Htodo⟩, Hv⟩ Hk
  iapply (wp_outStart (Ψ := fun _ => Φ) d i ft fi f₀ qo t (blk i t) hs hd hm) $$ [Hwm Hr Hb Hv]
  · isplitl [Hwm]; · iexact Hwm
    isplitl [Hr]; · iexact Hr
    isplitl [Hb] <;> iassumption
  iintro Hfl
  iapply Hk
  isplitl [Hfl] <;> iassumption

theorem endPrev {Φ : sProp 𝕄} {t : ℕ} (ht : 0 < t) {src : Memref sig .scVector .vmem S128x128 .f32} {dst : Memref sig .scVector .hbm S128x128 .f32}
    {sm : DmaSem sig} (hs : src = slotO (t - 1)) (hd : dst = outBlk (blk i (t - 1))) (hm : sm = semO (t - 1))
    {h1 : src.view.WordExact} {h2 : dst.view.WordExact} :
    iprop(MayWaits (tile d i) (default : HIx 1) O ∗ outAt d i ft fi f₀ qo t ∗ OW d i O W ∗ done d i ft fi f₀ qo (t - 1))
      ⊢ iprop((iprop(ridle d i (t + 1) ∗ OW d i O W ∗ done d i ft fi f₀ qo t) -∗ Φ)
          -∗ WP (Prog.lift (.waitDma2 sm src dst h1 h2)) fun _ => Φ) := by
  unfold outAt
  rw [if_pos ht]
  iintro ⟨Hmw, Hfl, HO, Hdone⟩ Hk
  iapply (wp_outWait (Ψ := fun _ => Φ) d i ft fi f₀ qo (t - 1) (blk i (t - 1)) hs hd hm) $$ [Hfl HO Hmw]
  · isplitl [Hfl]; · iexact Hfl
    isplitl [HO] <;> iassumption
  iintro ⟨Hb, Hr, Hv, HO⟩
  iapply Hk
  isplitl [Hr Hv]
  · rw [ridle_congr d i (show (t + 1) % 2 = (t - 1) % 2 by omega)]
    unfold ridle; isplitl [Hr] <;> iassumption
  isplitl [HO]; · iexact HO
  rw [show t = (t - 1) + 1 by omega, done_put, show t - 1 + 1 - 1 = t - 1 by omega]
  isplitl [Hb] <;> iassumption

set_option maxHeartbeats 8000000 in
theorem trip (hr : InRange fi) {ιwm : ℕ} (t : Fin k0_t1_loop.trips) (acc : BitVec 32 × BitVec 32 × BitVec 32 × BitVec 32 × BitVec 32)
    (hsV : sV.IsWhole) (hrV : rV.IsWhole) (v27 c0 c1 c2 c3 : BitVec 32) :
    iprop(wmInv (Ix := HIx 1) (Lvl := ℕ) wmE ιwm ∗ MayWaits (tile d i) (default : HIx 1) O ∗ inv d i ft fi f₀ qt qi qo O W t acc)
      ⊢ WP (k0_t1_body (F := F) i tV (Memref.isWhole_whole _) iV (Memref.isWhole_whole _) oV (Memref.isWhole_whole _) sV hsV cc0_scoped1 rV hrV
          cc0_scoped3 cc0_scoped4 (Scalar.muli (BitVec.ofNat 32 (i 1).val) 8#32) v27 c0 c1 c2 c3 t acc)
        (inv d i ft fi f₀ qt qi qo O W (t.val + 1)) := by
  have ht : t.val < 8 := lt_of_lt_of_eq t.isLt Words.trips
  obtain ⟨a6, a7, a8, a9, a10⟩ := acc
  unfold inv
  iintro ⟨#Hwm, #Hmw, %hacc, Hin, Hidle, Hout, Hrid, Ht, Hg, HO, Htodo, Hdone⟩
  obtain ⟨h6, h7, h8, h9, h10⟩ : a6 = (cw t.val).1 ∧ a7 = (cw t.val).2.1 ∧ a8 = (cw t.val).2.2.1 ∧ a9 = (cw t.val).2.2.2.1 ∧ a10 = (cw t.val).2.2.2.2 := by
    rw [← hacc]; exact ⟨rfl, rfl, rfl, rfl, rfl⟩
  subst h6 h7 h8 h9 h10
  unfold k0_t1_body
  simp only [k0_part1_eq_skeleton, k0_part2_eq_skeleton]
  unfold k0_part1_skel k0_part2_skel
  simp only [wp_bind, ite_self]
  iapply (wp_check d i (Words.chk3 t))
  iapply (wp_check d i (Words.chk2 t))
  iapply (wp_check d i (Words.chk1 i t))
  iapply (wp_when d i (P := idle d i fi qi (t.val + 1)) (R := inAt d i fi qi (t.val + 1))
    (fun h => startNext d i fi qi (by have := (Words.cond1_iff i t).1 h; omega)
      (idxBlk_of _ (Words.off5 i t ((Words.cond1_iff i t).1 h)) _) (slotI_of _ (Words.off4 t ((Words.cond1_iff i t).1 h)) _)
      (semI_of _ (Words.off6 t ((Words.cond1_iff i t).1 h)) _))
    (fun h => by unfold inAt; rw [if_neg (fun h' => h ((Words.cond1_iff i t).2 (by omega)))])) $$ [Hidle]
  · iexact Hidle
  iintro Hnext
  rw [wp_pure]; imodintro
  iapply (wp_when d i
    (P := iprop(MayWaits (tile d i) (default : HIx 1) O ∗ inAt d i fi qi t.val ∗ OW d i O W))
    (R := iprop((iLoc d ↦{half qi t.val} fi) ∗ sHas d i fi t.val (blk i t.val) ∗ semVal (tile d i, .dma (semI t.val)) 0 ∗ OW d i O W))
    (fun _ => waitOwn d i fi qi O W ht (idxBlk_of _ (Words.off8 i t) _) (slotI_of _ (Words.off7 t) _) (semI_of _ (Words.off9 t) _))
    (fun h => absurd (Words.cond2 i t) h)) $$ [Hin HO]
  · isplitr; · iexact Hmw
    isplitl [Hin] <;> iassumption
  iintro ⟨Hi, Hs, Hvi, HO⟩
  unfold ridle
  icases Hrid with ⟨Hr, Hvo⟩
  simp only [wp_bind]
  iapply (wp_gather d i ft fi hr qt t.val t.val (blk i t.val) rfl rfl (slotO_of _ (Words.off10 t) _) (slotO_of _ (Words.off10 t) _)
    (offsI_of _ (Words.off11 t) _)) $$ [Ht Hr Hs Hg HO]
  · isplitl [Ht]; · iexact Ht
    isplitl [Hr]; · iexact Hr
    isplitl [Hs]; · iexact Hs
    isplitl [Hg]; · iexact Hg
    isplitl [HO] <;> iassumption
  iintro ⟨Ht, Hr, Hs, Hg, HO⟩
  rw [wp_pure]; imodintro
  iapply (wp_when d i
    (P := iprop(wmInv (Ix := HIx 1) (Lvl := ℕ) wmE ιwm ∗ rHas d i ft fi t.val (blk i t.val) ∗ todo d i ft fi f₀ qo t.val
      ∗ semVal (tile d i, .dma (semO t.val)) 0))
    (R := iprop(outAt d i ft fi f₀ qo (t.val + 1) ∗ todo d i ft fi f₀ qo (t.val + 1)))
    (fun _ => putOut d i ft fi f₀ qo ht (slotO_of _ (Words.off12 t) _) (outBlk_of _ (Words.off13 i t) _) (semO_of _ (Words.off14 t) _))
    (fun h => absurd (Words.cond5 i t) h)) $$ [Hr Htodo Hvo]
  · isplitr; · iexact Hwm
    isplitl [Hr]; · iexact Hr
    isplitl [Htodo] <;> iassumption
  iintro ⟨Hout', Htodo⟩
  iapply (wp_when d i
    (P := iprop(MayWaits (tile d i) (default : HIx 1) O ∗ outAt d i ft fi f₀ qo t.val ∗ OW d i O W ∗ done d i ft fi f₀ qo (t.val - 1)))
    (R := iprop(ridle d i (t.val + 1) ∗ OW d i O W ∗ done d i ft fi f₀ qo t.val))
    (fun h => endPrev d i ft fi f₀ qo O W ((Words.cond7_iff i t).1 h) (slotO_of _ (Words.off15 t) _)
      (outBlk_of _ (Words.off16 i t ((Words.cond7_iff i t).1 h)) _) (semO_of _ (Words.off17 t) _))
    (fun h => firstOut d i ft fi f₀ qo O W (Nat.eq_zero_of_not_pos fun h' => h ((Words.cond7_iff i t).2 h')))) $$ [Hout HO Hdone]
  · isplitr; · iexact Hmw
    isplitl [Hout]; · iexact Hout
    isplitl [HO] <;> iassumption
  iintro ⟨Hrid, HO, Hdone⟩
  rw [wp_pure]; imodintro
  rw [show iprop(rAny (F := F) d i (t.val + 1) ∗ semVal (tile d i, .dma (semO (t.val + 1))) 0) = ridle d i (t.val + 1) from rfl]
  isplitr
  · ipureintro; exact Words.next i t
  isplitl [Hnext]; · iexact Hnext
  isplitl [Hi Hs Hvi]
  · rw [idle_congr d i fi qi (show (t.val + 1 + 1) % 2 = t.val % 2 by omega)]
    unfold idle
    isplitl [Hi]; · iexact Hi
    isplitl [Hs] <;> iassumption
  isplitl [Hout']; · iexact Hout'
  isplitl [Hrid]; · iexact Hrid
  isplitl [Ht]; · iexact Ht
  isplitl [Hg]; · iexact Hg
  isplitl [HO]; · iexact HO
  isplitl [Htodo]; · iexact Htodo
  rw [Nat.add_sub_cancel]; iexact Hdone

/-- The trip, with what every trip shares kept. -/
theorem tripP (hr : InRange fi) {ιwm : ℕ} (t : Fin k0_t1_loop.trips) (acc : BitVec 32 × BitVec 32 × BitVec 32 × BitVec 32 × BitVec 32)
    (hsV : sV.IsWhole) (hrV : rV.IsWhole) (v27 c0 c1 c2 c3 : BitVec 32) :
    iprop(wmInv (Ix := HIx 1) (Lvl := ℕ) wmE ιwm ∗ MayWaits (tile d i) (default : HIx 1) O ∗ inv d i ft fi f₀ qt qi qo O W t acc)
      ⊢ WP (k0_t1_body (F := F) i tV (Memref.isWhole_whole _) iV (Memref.isWhole_whole _) oV (Memref.isWhole_whole _) sV hsV cc0_scoped1 rV hrV
          cc0_scoped3 cc0_scoped4 (Scalar.muli (BitVec.ofNat 32 (i 1).val) 8#32) v27 c0 c1 c2 c3 t acc)
        fun acc' => iprop(wmInv (Ix := HIx 1) (Lvl := ℕ) wmE ιwm ∗ MayWaits (tile d i) (default : HIx 1) O
          ∗ inv d i ft fi f₀ qt qi qo O W (t.val + 1) acc') := by
  iintro ⟨#Hwm, #Hmw, H⟩
  iapply (wp_wand_r frame (wpE (defs₀ (F := F)) 𝒱₀ (tile d i) none) Set.univ)
  isplitl [H]
  · iapply (trip d i ft fi f₀ qt qi qo O W hr (ιwm := ιwm) t acc hsV hrV v27 c0 c1 c2 c3)
    isplitr; · iexact Hwm
    isplitr; · iexact Hmw
    iexact H
  iintro %acc' H
  isplitr; · iexact Hwm
  isplitr; · iexact Hmw
  iexact H

end Cert.Proof
-- ==== Proof.TileBody.lean ====
module

public import proofs.«01_k».proof.Proof.Tile

@[expose] public section

/-! # The gather kernel on one tile

The copy of the first index block is started, the eight trips run, and the copy out of the last block's rows is waited
for: all eight blocks are then written, and the buffers and the semaphores are as they were. -/

noncomputable section

namespace Cert.Proof

open Cert.KernelIdeal Cert.KernelIdeal.Gen
open Cert.Proof.Words (cw)

open Idealize.ShloMosaic
open Idealize.ShloMosaic.SparseCore (V)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Transfers (Flight MayWaits)
open Idealize.ShloMosaic.Tactic

variable {F : FTy → Type} [FloatOps F]

local notation "𝕄" => MM F

variable (d : Dev nD) (i : grid0.Coords)
variable (ft : S1000000x128.Idx → Elt F .f32) (fi : S1x16384.Idx → Elt F .i32) (f₀ : S16384x128.Idx → Elt F .f32)
variable (qt qi qo : PosShare TreeShare) (O : CellTallies nD τ sig (HIx 1)) (W : Waits sig (HIx 1))

local notation "WP" => wp frame (wpE (defs₀ (F := F)) 𝒱₀ (tile d i) none) Set.univ

/-- A tile's buffers and cells at rest, with its shares of the table and of the index row. -/
def rest : sProp 𝕄 :=
  iprop(idle d i fi qi 0 ∗ idle d i fi qi 1 ∗ ridle d i 0 ∗ ridle d i 1 ∗ (tLoc d ↦{qt} ft)
    ∗ semVal (tile d i, .dma cc0_scoped4.sem) 0 ∗ OW d i O W)

/-- After the last trip everything is at rest again. -/
theorem rest_last :
    (iprop(inAt d i fi qi 8 ∗ idle d i fi qi (8 + 1) ∗ ridle d i 8 ∗ ridle d i (8 + 1) ∗ (tLoc d ↦{qt} ft)
      ∗ semVal (tile d i, .dma cc0_scoped4.sem) 0 ∗ OW d i O W) : sProp 𝕄) ⊢ rest d i ft fi qt qi O W := by
  unfold rest
  rw [show inAt d i fi qi 8 = idle d i fi qi 8 from if_neg (Nat.lt_irrefl 8),
    idle_congr d i fi qi (show 0 % 2 = 8 % 2 by decide), idle_congr d i fi qi (show 1 % 2 = (8 + 1) % 2 by decide),
    ridle_congr d i (show 0 % 2 = 8 % 2 by decide), ridle_congr d i (show 1 % 2 = (8 + 1) % 2 by decide)]

theorem done_zero : (iprop(emp) : sProp 𝕄) ⊢ done d i ft fi f₀ qo (0 - 1) := by
  unfold done; rw [show (0 - 1 : ℕ) = 0 from rfl, Finset.range_zero, bigSep_empty]; exact .rfl

theorem todo_last : todo d i ft fi f₀ qo 8 = (iprop(emp) : sProp 𝕄) := by
  unfold todo; rw [Finset.Ico_self, bigSep_empty]; rfl

set_option pp.maxSteps 600 in
set_option maxHeartbeats 8000000 in
theorem loop (hr : InRange fi) {ιwm : ℕ} (hsV : sV.IsWhole) (hrV : rV.IsWhole) (v27 c0 c1 c2 c3 : BitVec 32)
    {Ψ : BitVec 32 × BitVec 32 × BitVec 32 × BitVec 32 × BitVec 32 → sProp 𝕄} :
    iprop(wmInv (Ix := HIx 1) (Lvl := ℕ) wmE ιwm ∗ MayWaits (tile d i) (default : HIx 1) O ∗ inv d i ft fi f₀ qt qi qo O W 0 (cw 0)
        ∗ (∀ acc, inv d i ft fi f₀ qt qi qo O W 8 acc -∗ Ψ acc))
      ⊢ WP (Scf.Loop.for k0_t1_loop k0_t1_ok (cw 0) (k0_t1_body (F := F) i tV (Memref.isWhole_whole _) iV (Memref.isWhole_whole _) oV (Memref.isWhole_whole _) sV hsV cc0_scoped1 rV hrV
          cc0_scoped3 cc0_scoped4 (Scalar.muli (BitVec.ofNat 32 (i 1).val) 8#32) v27 c0 c1 c2 c3)) Ψ := by
  iintro ⟨#Hwm, #Hmw, H0, HΨ⟩
  unfold Scf.Loop.for
  iapply (Scf.wp_for frame (wpE (defs₀ (F := F)) 𝒱₀ (tile d i) none) Set.univ _ _ _ _ _ _
    (fun t acc => iprop(wmInv (Ix := HIx 1) (Lvl := ℕ) wmE ιwm ∗ MayWaits (tile d i) (default : HIx 1) O ∗ inv d i ft fi f₀ qt qi qo O W t acc))
    (fun t acc => tripP d i ft fi f₀ qt qi qo O W hr t acc hsV hrV v27 c0 c1 c2 c3))
  isplitl [H0]
  · isplitr; · iexact Hwm
    isplitr; · iexact Hmw
    iexact H0
  iintro %acc ⟨_, _, H⟩
  iapply HΨ
  rw [show Scf.trips k0_t1_loop.lb k0_t1_loop.ub k0_t1_loop.st = 8 from Words.trips]
  iexact H

set_option pp.maxSteps 600 in
set_option maxHeartbeats 8000000 in
theorem tile_run (hr : InRange fi) {ιwm : ℕ} (hsV : sV.IsWhole) (hrV : rV.IsWhole) :
    iprop(wmInv (Ix := HIx 1) (Lvl := ℕ) wmE ιwm ∗ MayWaits (tile d i) (default : HIx 1) O ∗ rest d i ft fi qt qi O W ∗ todo d i ft fi f₀ qo 0)
      ⊢ WP (cc0_gather_kernel (F := F) i tV (Memref.isWhole_whole _) iV (Memref.isWhole_whole _) oV (Memref.isWhole_whole _) sV hsV cc0_scoped1 rV hrV
          cc0_scoped3 cc0_scoped4) fun _ => iprop(rest d i ft fi qt qi O W ∗ done d i ft fi f₀ qo 8) := by
  simp only [cc0_gather_kernel_eq_skeleton]; unfold cc0_gather_kernel_skel
  simp only [k0_part3_eq_skeleton, k0_part4_eq_skeleton]
  unfold k0_part3_skel k0_part4_skel rest
  simp only [wp_bind]
  iintro ⟨#Hwm, #Hmw, ⟨Hi0, Hi1, Hr0, Hr1, Ht, Hg, HO⟩, Htodo⟩
  iapply (startNext (F := F) d i fi qi (t := 0) (by decide) (idxBlk_of _ (Words.off2 i) _) (slotI_of _ Words.off1 _) (semI_of _ Words.off3 _)) $$ [Hi0]
  · iexact Hi0
  iintro Hin
  rw [wp_pure]; imodintro
  dsimp only
  rw [show (Scalar.addi 0#32 1#32, 0#32, 0#32, 0#32, 0#32) = cw 0 by decide]
  iapply (loop (F := F) d i ft fi f₀ qt qi qo O W hr (ιwm := ιwm) hsV hrV)
  isplitr; · iexact Hwm
  isplitr; · iexact Hmw
  isplitl [Hin Hi1 Hr0 Hr1 Ht Hg HO Htodo]
  · unfold inv
    isplitr; · ipureintro; rfl
    isplitl [Hin]; · iexact Hin
    isplitl [Hi1]; · iexact Hi1
    isplitl [Hr1]; · unfold outAt; rw [if_neg (Nat.lt_irrefl 0)]; iexact Hr1
    isplitl [Hr0]; · iexact Hr0
    isplitl [Ht]; · iexact Ht
    isplitl [Hg]; · iexact Hg
    isplitl [HO]; · iexact HO
    isplitl [Htodo]; · iexact Htodo
    iapply (done_zero d i ft fi f₀ qo); iempintro
  iintro %acc Hinv
  unfold inv
  icases Hinv with ⟨%hacc, Hin, Hi1, Hout, Hr0, Ht, Hg, HO, -, Hdone⟩
  subst hacc
  iapply (wp_check d i (Words.chk5 i))
  iapply (wp_check d i Words.chk4)
  rw [wp_pure]; imodintro
  iapply (endPrev d i ft fi f₀ qo O W (t := 8) (by decide) (slotO_of _ Words.off21 _) (outBlk_of _ (Words.off19 i) _) (semO_of _ Words.off20 _)) $$ [Hout HO Hdone]
  · isplitr; · iexact Hmw
    isplitl [Hout]; · iexact Hout
    isplitl [HO] <;> iassumption
  iintro ⟨Hr1, HO, Hdone⟩
  rw [wp_pure]; imodintro
  isplitr [Hdone]
  · rw [show iprop(idle d i fi qi 0 ∗ idle d i fi qi 1 ∗ ridle d i 0 ∗ ridle d i 1 ∗ (tLoc d ↦{qt} ft)
      ∗ semVal (tile d i, .dma cc0_scoped4.sem) 0 ∗ OW d i O W) = rest d i ft fi qt qi O W from rfl]
    iapply (rest_last d i ft fi qt qi O W)
    isplitl [Hin]; · iexact Hin
    isplitl [Hi1]; · iexact Hi1
    isplitl [Hr0]; · iexact Hr0
    isplitl [Hr1]; · iexact Hr1
    isplitl [Ht]; · iexact Ht
    isplitl [Hg] <;> iassumption
  iexact Hdone

end Cert.Proof
-- ==== Proof.Slots.lean ====
module

public import proofs.«01_k».proof.Proof.TileBody

@[expose] public section

/-! # What a tile is given

A tile's own buffers and cells hold its two double buffers and its five cells. Each double buffer is its two slots, so at
launch they are what the eight trips start from, and after them they are a tile's own buffers and cells again. -/

noncomputable section

namespace Cert.Proof

open Cert.KernelIdeal Cert.KernelIdeal.Gen

open Idealize.ShloMosaic
open Idealize.ShloMosaic.SparseCore (V)
open Idealize.ShloMosaic.SparseCore.Cfg (HIx Pay ownCells ownRefs ownBufs ownSems0 mem_ownCells)
open Idealize.SL Idealize.SL.RA Idealize.SL.BI
open scoped Idealize.SL.BI
open Idealize.SL.BI.BIBase Idealize.SL.BI.Laws Idealize.SL.ProofMode Idealize.SL.Sem
open Idealize.ShloMosaic.Transfers (Flight MayWaits)
open Idealize.ShloMosaic.Tactic

variable {F : FTy → Type} [FloatOps F]

local notation "𝕄" => MM F

/-! ## The two slots of a double buffer -/

theorem mem_slotI (n : ℕ) (x : S2x1x128.Idx) : x ∈ (slotI n).view.set ↔ (x 0).val = n % 2 := by
  have e : (slotI n).view.set = (Rect.unit (s := S2x1x128) ![n % 2, 0, 0] S1x1x128.size (inb_slotI n)).set := by
    show ((sV.view.slice (Rect.unit (s := S2x1x128) ![n % 2, 0, 0] S1x1x128.size (inb_slotI n))).reshape S1x128
      squeezes_S1x1x128_S1x128.numel_eq).set = _
    rw [View.set_reshape]; exact View.set_slice_whole _ _
  rw [e, Rect.mem_set_unit]
  have h1 : (x 1).val < 1 := (x 1).isLt
  have h2 : (x 2).val < 128 := (x 2).isLt
  constructor
  · intro h
    have h0 : n % 2 ≤ (x 0).val ∧ (x 0).val < n % 2 + 1 := h 0
    omega
  · intro h a
    match a with
    | 0 => show n % 2 ≤ (x 0).val ∧ (x 0).val < n % 2 + 1; omega
    | 1 => show 0 ≤ (x 1).val ∧ (x 1).val < 0 + 1; omega
    | 2 => show 0 ≤ (x 2).val ∧ (x 2).val < 0 + 128; omega

theorem mem_slotO (n : ℕ) (x : S2x128x128.Idx) : x ∈ (slotO n).view.set ↔ (x 0).val = n % 2 := by
  have e : (slotO n).view.set = (Rect.unit (s := S2x128x128) ![n % 2, 0, 0] S1x128x128.size (inb_slotO n)).set := by
    show ((rV.view.slice (Rect.unit (s := S2x128x128) ![n % 2, 0, 0] S1x128x128.size (inb_slotO n))).reshape S128x128
      squeezes_S1x128x128_S128x128.numel_eq).set = _
    rw [View.set_reshape]; exact View.set_slice_whole _ _
  rw [e, Rect.mem_set_unit]
  have h1 : (x 1).val < 128 := (x 1).isLt
  have h2 : (x 2).val < 128 := (x 2).isLt
  constructor
  · intro h
    have h0 : n % 2 ≤ (x 0).val ∧ (x 0).val < n % 2 + 1 := h 0
    omega
  · intro h a
    match a with
    | 0 => show n % 2 ≤ (x 0).val ∧ (x 0).val < n % 2 + 1; omega
    | 1 => show 0 ≤ (x 1).val ∧ (x 1).val < 0 + 128; omega
    | 2 => show 0 ≤ (x 2).val ∧ (x 2).val < 0 + 128; omega

theorem slotsI_disjoint : Disjoint ((slotI 0).view.set : Finset S2x1x128.Idx) (slotI 1).view.set := by
  rw [Finset.disjoint_left]; intro x h0 h1
  rw [mem_slotI] at h0 h1; omega
theorem slotsI_union : ((slotI 0).view.set : Finset S2x1x128.Idx) ∪ (slotI 1).view.set = Finset.univ := by
  ext x; rw [Finset.mem_union, mem_slotI, mem_slotI]
  have h : (x 0).val < 2 := (x 0).isLt
  simp only [Finset.mem_univ, iff_true]; omega
theorem slotsO_disjoint : Disjoint ((slotO 0).view.set : Finset S2x128x128.Idx) (slotO 1).view.set := by
  rw [Finset.disjoint_left]; intro x h0 h1
  rw [mem_slotO] at h0 h1; omega
theorem slotsO_union : ((slotO 0).view.set : Finset S2x128x128.Idx) ∪ (slotO 1).view.set = Finset.univ := by
  ext x; rw [Finset.mem_union, mem_slotO, mem_slotO]
  have h : (x 0).val < 2 := (x 0).isLt
  simp only [Finset.mem_univ, iff_true]; omega

section Tile
variable (d : Dev nD) (i : grid0.Coords)

theorem sBuf_split : (iprop(∃ f, (tile d i).loc cc0_scoped0 ↦{fullShare} f) : sProp 𝕄) ⊢ iprop(sAny (F := F) d i 0 ∗ sAny (F := F) d i 1) := by
  unfold sAny sPts
  iintro ⟨%f, H⟩
  ihave H' := (Entails.of_eq (show ((tile d i).loc cc0_scoped0 ↦{fullShare} f : sProp 𝕄)
      = (tile d i).loc cc0_scoped0 ↦[(slotI 0).view.set ∪ (slotI 1).view.set]{fullShare} f by rw [slotsI_union])) $$ H
  ihave H2 := (pointsTo_union (f := f) (q := fullShare) (ℓ := (tile d i).loc cc0_scoped0) slotsI_disjoint).1 $$ H'
  icases H2 with ⟨H0, H1⟩
  isplitl [H0]
  · iexists f; iexact H0
  · iexists f; iexact H1
theorem sBuf_join : iprop(sAny (F := F) d i 0 ∗ sAny (F := F) d i 1) ⊢ (iprop(∃ f, (tile d i).loc cc0_scoped0 ↦{fullShare} f) : sProp 𝕄) := by
  unfold sAny sPts
  iintro ⟨⟨%f, H0⟩, ⟨%g, H1⟩⟩
  ihave H := (pointsTo_join (f := f) (g := g) (q := fullShare) (ℓ := (tile d i).loc cc0_scoped0) slotsI_disjoint) $$ [H0 H1]
  · isplitl [H0] <;> iassumption
  iexists _
  iapply (Entails.of_eq (show ((tile d i).loc cc0_scoped0 ↦[(slotI 0).view.set ∪ (slotI 1).view.set]{fullShare} _ : sProp 𝕄)
      = (tile d i).loc cc0_scoped0 ↦{fullShare} _ by rw [slotsI_union]))
  iexact H
theorem rBuf_split : (iprop(∃ f, (tile d i).loc cc0_scoped2 ↦{fullShare} f) : sProp 𝕄) ⊢ iprop(rAny (F := F) d i 0 ∗ rAny (F := F) d i 1) := by
  unfold rAny rPts
  iintro ⟨%f, H⟩
  ihave H' := (Entails.of_eq (show ((tile d i).loc cc0_scoped2 ↦{fullShare} f : sProp 𝕄)
      = (tile d i).loc cc0_scoped2 ↦[(slotO 0).view.set ∪ (slotO 1).view.set]{fullShare} f by rw [slotsO_union])) $$ H
  ihave H2 := (pointsTo_union (f := f) (q := fullShare) (ℓ := (tile d i).loc cc0_scoped2) slotsO_disjoint).1 $$ H'
  icases H2 with ⟨H0, H1⟩
  isplitl [H0]
  · iexists f; iexact H0
  · iexists f; iexact H1
theorem rBuf_join : iprop(rAny (F := F) d i 0 ∗ rAny (F := F) d i 1) ⊢ (iprop(∃ f, (tile d i).loc cc0_scoped2 ↦{fullShare} f) : sProp 𝕄) := by
  unfold rAny rPts
  iintro ⟨⟨%f, H0⟩, ⟨%g, H1⟩⟩
  ihave H := (pointsTo_join (f := f) (g := g) (q := fullShare) (ℓ := (tile d i).loc cc0_scoped2) slotsO_disjoint) $$ [H0 H1]
  · isplitl [H0] <;> iassumption
  iexists _
  iapply (Entails.of_eq (show ((tile d i).loc cc0_scoped2 ↦[(slotO 0).view.set ∪ (slotO 1).view.set]{fullShare} _ : sProp 𝕄)
      = (tile d i).loc cc0_scoped2 ↦{fullShare} _ by rw [slotsO_union]))
  iexact H

/-! ## A tile's own cells and buffers -/

/-- The gather kernel's cells on a tile. -/
def cells : Finset (GSem nD τ sig) :=
  {(tile d i, .dma (semI 0)), (tile d i, .dma (semI 1)), (tile d i, .dma (semO 0)), (tile d i, .dma (semO 1)), (tile d i, .dma cc0_scoped4.sem)}

theorem cells_own : cells d i ⊆ ownCells (tile d i) := by
  intro g hg
  simp only [cells, Finset.mem_insert, Finset.mem_singleton] at hg
  rcases hg with rfl | rfl | rfl | rfl | rfl <;> refine mem_ownCells.mpr ⟨rfl, ?_⟩ <;>
    first
      | exact (by decide : (SemLoc.dma (semI 0) : SemLoc sig).isScoped .scVector = true)
      | exact (by decide : (SemLoc.dma (semI 1) : SemLoc sig).isScoped .scVector = true)
      | exact (by decide : (SemLoc.dma (semO 0) : SemLoc sig).isScoped .scVector = true)
      | exact (by decide : (SemLoc.dma (semO 1) : SemLoc sig).isScoped .scVector = true)
      | exact (by decide : (SemLoc.dma cc0_scoped4.sem : SemLoc sig).isScoped .scVector = true)

theorem cell_ne {s s' : DmaSem sig} (h : s ≠ s') : ((tile d i, .dma s) : GSem nD τ sig) ≠ (tile d i, .dma s') :=
  fun e => h (SemLoc.dma.inj (Prod.mk.inj e).2)

theorem ownSems_tile :
    (ownSems0 (tile d i) : sProp 𝕄)
      = iprop((semVal (tile d i, .dma (semI 0)) 0 ∗ semVal (tile d i, .dma (semI 1)) 0 ∗ semVal (tile d i, .dma (semO 0)) 0
          ∗ semVal (tile d i, .dma (semO 1)) 0 ∗ semVal (tile d i, .dma cc0_scoped4.sem) 0)
        ∗ bigSep (ownCells (tile d i) \ cells d i) fun g => semVal g 0) := by
  unfold SparseCore.Cfg.ownSems0
  rw [bigSep_sdiff_split (cells_own d i)]
  unfold cells
  rw [SparseCore.bigSep_insert' (by simp only [Finset.mem_insert, Finset.mem_singleton, not_or]; exact ⟨cell_ne d i (by decide), cell_ne d i (by decide), cell_ne d i (by decide), cell_ne d i (by decide)⟩),
    SparseCore.bigSep_insert' (by simp only [Finset.mem_insert, Finset.mem_singleton, not_or]; exact ⟨cell_ne d i (by decide), cell_ne d i (by decide), cell_ne d i (by decide)⟩),
    SparseCore.bigSep_insert' (by simp only [Finset.mem_insert, Finset.mem_singleton, not_or]; exact ⟨cell_ne d i (by decide), cell_ne d i (by decide)⟩),
    SparseCore.bigSep_insert' (by simp only [Finset.mem_singleton]; exact cell_ne d i (by decide)), bigSep_singleton]
  rfl

/-- The gather kernel's buffers on a tile. -/
def bufs : Finset (DevRef τ sig) :=
  {(Proc.scVector (cV i) (jV i)).devRef cc0_scoped0, (Proc.scVector (cV i) (jV i)).devRef cc0_scoped2}

theorem bufs_own : bufs i ⊆ ownRefs (τ := τ) (.scVector (cV i) (jV i)) := by
  intro b hb
  simp only [bufs, Finset.mem_insert, Finset.mem_singleton] at hb
  rcases hb with rfl | rfl <;> exact SparseCore.Cfg.mem_ownRefs_of_owner rfl

theorem ownBufs_tile :
    (ownBufs (tile d i) : sProp 𝕄)
      = iprop(((∃ f, (tile d i).loc cc0_scoped0 ↦{fullShare} f) ∗ (∃ f, (tile d i).loc cc0_scoped2 ↦{fullShare} f))
        ∗ bigSep (ownRefs (τ := τ) (.scVector (cV i) (jV i)) \ bufs i) fun b => iprop(∃ f, ((d, b) : Loc nD τ sig) ↦{fullShare} f)) := by
  unfold SparseCore.Cfg.ownBufs
  refine (bigSep_sdiff_split (bufs_own i)).trans ?_
  unfold bufs
  rw [SparseCore.bigSep_insert' (by
    rw [Finset.mem_singleton]
    exact fun e => absurd (Proc.devRef_injective _ e) (show (cc0_scoped0 : Ref sig .scVector) ≠ cc0_scoped2 by decide)), bigSep_singleton]
  rfl

variable (ft : S1000000x128.Idx → Elt F .f32) (fi : S1x16384.Idx → Elt F .i32) (f₀ : S16384x128.Idx → Elt F .f32)
variable (q q' : PosShare TreeShare) (O : CellTallies nD τ sig (HIx 1)) (W : Waits sig (HIx 1))

/-- The task on a tile: from shares of the table and of the index row, its blocks of the gathered rows get written. -/
theorem tile_body (hF : (K (F := F)).Facts) (hr : InRange fi) (hO : ∀ g, O g none = 0) :
    iprop(levAts (K (F := F)).L (K (F := F)).lev ∗ (∃ ιwm, wmInv (Ix := HIx 1) (Lvl := ℕ) wmE ιwm)
        ∗ ((tLoc d ↦{q} ft) ∗ (iLoc d ↦{q} fi) ∗ todo d i ft fi f₀ q' 0)
        ∗ scopedBufs (tile d i) ∗ scopedSems0 (tile d i) ∗ owes (tile d i) O W)
      ⊢ wp frame (wpE (defs₀ (F := F)) 𝒱₀ (tile d i) none) Set.univ
          (cc0_gather_kernel (F := F) i tV (Memref.isWhole_whole _) iV (Memref.isWhole_whole _) oV (Memref.isWhole_whole _)
            sV (Memref.isWhole_whole _) cc0_scoped1 rV (Memref.isWhole_whole _) cc0_scoped3 cc0_scoped4)
          fun _ => iprop(((tLoc d ↦{q} ft) ∗ (iLoc d ↦{q} fi) ∗ done d i ft fi f₀ q' 8)
            ∗ scopedBufs (tile d i) ∗ scopedSems0 (tile d i)
            ∗ ∃ W', ⌜∀ p ∈ W', p ∈ W ∨ p.2 = none⌝ ∗ owes (tile d i) O W') := by
  rw [(K (F := F)).scopedBufs_V hF d (cV i) (jV i), SparseCore.Cfg.scopedSems0_V (Val := Elt F) d (cV i) (jV i), ownSems_tile, ownBufs_tile]
  iintro ⟨#Hlv, ⟨%ιwm, #Hwm⟩, ⟨Ht, Hi, Hto⟩, ⟨⟨Hs, Hr⟩, Hbufs⟩, ⟨⟨H0, H1, H2, H3, H4⟩, Hsems⟩, HO⟩
  ihave Hmw := (show levAts (K (F := F)).L (K (F := F)).lev ⊢ Transfers.MayWaits (tile d i) (default : HIx 1) O from
    (K (F := F)).mayWaits_none (thr := tile d i) hO) $$ Hlv
  ihave Hs' := (sBuf_split d i) $$ Hs
  icases Hs' with ⟨Hs0, Hs1⟩
  ihave Hr' := (rBuf_split d i) $$ Hr
  icases Hr' with ⟨Hr0, Hr1⟩
  ihave Hi' := (pointsTo_share (PosShare.mem_left_op_right q)).1 $$ Hi
  icases Hi' with ⟨Hi0, Hi1⟩
  iapply (wp_wand_r frame (wpE (defs₀ (F := F)) 𝒱₀ (tile d i) none) Set.univ)
  isplitr [Hbufs Hsems]
  · iapply (tile_run d i ft fi f₀ q q q' O W hr (Memref.isWhole_whole _) (Memref.isWhole_whole _))
    isplitr; · iexact Hwm
    isplitl [Hmw]; · iexact Hmw
    isplitr [Hto]
    · unfold rest idle ridle OW Copies.OW
      isplitl [Hi0 Hs0 H0]
      · isplitl [Hi0]; · iexact Hi0
        isplitl [Hs0] <;> iassumption
      isplitl [Hi1 Hs1 H1]
      · isplitl [Hi1]; · iexact Hi1
        isplitl [Hs1] <;> iassumption
      isplitl [Hr0 H2]
      · isplitl [Hr0] <;> iassumption
      isplitl [Hr1 H3]
      · isplitl [Hr1] <;> iassumption
      isplitl [Ht]; · iexact Ht
      isplitl [H4]; · iexact H4
      iexists W; isplitr; · ipureintro; exact fun _ h => .inl h
      iexact HO
    · iexact Hto
  iintro %_ ⟨Hrest, Hdone⟩
  unfold rest idle ridle OW Copies.OW
  icases Hrest with ⟨⟨Hi0, Hs0, H0⟩, ⟨Hi1, Hs1, H1⟩, ⟨Hr0, H2⟩, ⟨Hr1, H3⟩, Ht, H4, HO⟩
  isplitl [Ht Hi0 Hi1 Hdone]
  · isplitl [Ht]; · iexact Ht
    isplitl [Hi0 Hi1]
    · iapply (pointsTo_share (PosShare.mem_left_op_right q)).2
      isplitl [Hi0]; · iexact Hi0
      iexact Hi1
    iexact Hdone
  isplitl [Hs0 Hs1 Hr0 Hr1 Hbufs]
  · isplitr [Hbufs]
    · isplitl [Hs0 Hs1]
      · iapply (sBuf_join d i); isplitl [Hs0] <;> iassumption
      · iapply (rBuf_join d i); isplitl [Hr0] <;> iassumption
    iexact Hbufs
  isplitl [H0 H1 H2 H3 H4 Hsems]
  · isplitr [Hsems]
    · isplitl [H0]; · iexact H0
      isplitl [H1]; · iexact H1
      isplitl [H2]; · iexact H2
      isplitl [H3] <;> iassumption
    iexact Hsems
  iexact HO

end Tile

end Cert.Proof
-- ==== Proof.Pay.lean ====
module

public import proofs.«01_k».proof.Proof.Slots

@[expose] public section

/-! # What is handed to the SparseCores, and back

Each SparseCore gets half of the table and of the index row, and half of every block of the gathered rows, to write: its
sixteen tiles share the table and the index row out and take eight blocks each. -/

noncomputable section

namespace Cert.Proof

open Cert.KernelIdeal Cert.KernelIdeal.Gen

open Idealize.ShloMosaic
open Idealize.ShloMosaic.SparseCore (V)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ShareLeaves (leaf pointsTo_leaves)
open Idealize.ShloMosaic.Tactic

variable {F : FTy → Type} [FloatOps F]

local notation "𝕄" => MM F

section Deal
variable (d : Dev nD)
variable (ft : S1000000x128.Idx → Elt F .f32) (fi : S1x16384.Idx → Elt F .i32) (f₀ : S16384x128.Idx → Elt F .f32)

/-- SparseCore `c`'s half of a share. -/
def coreShare (c : ℕ) : PosShare TreeShare := if c = 0 then fullShare.left else fullShare.right

/-- The eight blocks of tile `s`. -/
def todoOf (q : PosShare TreeShare) (s : ℕ) : sProp 𝕄 := bigSep (Finset.Ico 0 8) fun u => oTodo d ft fi f₀ q (8 * s + u)
def doneOf (q : PosShare TreeShare) (s : ℕ) : sProp 𝕄 := bigSep (Finset.range 8) fun u => oDone d ft fi f₀ q (8 * s + u)

/-- A tile's part, before and after. -/
def goOf (c : ℕ) (s : Fin 16) : sProp 𝕄 :=
  iprop((tLoc d ↦{leaf 4 (coreShare c) s} ft) ∗ (iLoc d ↦{leaf 4 (coreShare c) s} fi) ∗ todoOf d ft fi f₀ (coreShare c) s.val)
def tdOf (c : ℕ) (s : Fin 16) : sProp 𝕄 :=
  iprop((tLoc d ↦{leaf 4 (coreShare c) s} ft) ∗ (iLoc d ↦{leaf 4 (coreShare c) s} fi) ∗ doneOf d ft fi f₀ (coreShare c) s.val)
/-- A SparseCore's part, before and after. -/
def stOf (c : ℕ) : sProp 𝕄 :=
  iprop((tLoc d ↦{coreShare c} ft) ∗ (iLoc d ↦{coreShare c} fi) ∗ bigSep Finset.univ fun s : Fin 16 => todoOf d ft fi f₀ (coreShare c) s.val)
def dnOf (c : ℕ) : sProp 𝕄 :=
  iprop((tLoc d ↦{coreShare c} ft) ∗ (iLoc d ↦{coreShare c} fi) ∗ bigSep Finset.univ fun s : Fin 16 => doneOf d ft fi f₀ (coreShare c) s.val)

instance oTodo_storable (q : PosShare TreeShare) (b : ℕ) : BI.Storable (upEmb : UEmb _ 𝕄) (oTodo d ft fi f₀ q b) := by unfold oTodo; infer_instance
instance oDone_storable (q : PosShare TreeShare) (b : ℕ) : BI.Storable (upEmb : UEmb _ 𝕄) (oDone d ft fi f₀ q b) := by unfold oDone; infer_instance
instance todoOf_storable (q : PosShare TreeShare) (s : ℕ) : BI.Storable (upEmb : UEmb _ 𝕄) (todoOf d ft fi f₀ q s) := by unfold todoOf; infer_instance
instance doneOf_storable (q : PosShare TreeShare) (s : ℕ) : BI.Storable (upEmb : UEmb _ 𝕄) (doneOf d ft fi f₀ q s) := by unfold doneOf; infer_instance
instance goOf_storable (c : ℕ) (s : Fin 16) : BI.Storable (upEmb : UEmb _ 𝕄) (goOf d ft fi f₀ c s) := by unfold goOf; infer_instance
instance tdOf_storable (c : ℕ) (s : Fin 16) : BI.Storable (upEmb : UEmb _ 𝕄) (tdOf d ft fi f₀ c s) := by unfold tdOf; infer_instance
instance stOf_storable (c : ℕ) : BI.Storable (upEmb : UEmb _ 𝕄) (stOf d ft fi f₀ c) := by unfold stOf; infer_instance
instance dnOf_storable (c : ℕ) : BI.Storable (upEmb : UEmb _ 𝕄) (dnOf d ft fi f₀ c) := by unfold dnOf; infer_instance

theorem stOf_eq (c : ℕ) : stOf d ft fi f₀ c = bigSep Finset.univ fun s : Fin 16 => goOf d ft fi f₀ c s := by
  unfold stOf goOf
  rw [bigSep_sep', bigSep_sep', pointsTo_leaves (ℓ := tLoc d) Finset.univ ft 4 (coreShare c), pointsTo_leaves (ℓ := iLoc d) Finset.univ fi 4 (coreShare c)]
  rfl
theorem dnOf_eq (c : ℕ) : dnOf d ft fi f₀ c = bigSep Finset.univ fun s : Fin 16 => tdOf d ft fi f₀ c s := by
  unfold dnOf tdOf
  rw [bigSep_sep', bigSep_sep', pointsTo_leaves (ℓ := tLoc d) Finset.univ ft 4 (coreShare c), pointsTo_leaves (ℓ := iLoc d) Finset.univ fi 4 (coreShare c)]
  rfl

/-! ## All the rows, block by block -/

/-- The rows of block `b`. -/
def outSet (b : ℕ) : Finset S16384x128.Idx := show Finset (outBlk b).view.ty.Idx from (outBlk b).view.set
theorem mem_outSet (b : ℕ) (x : S16384x128.Idx) : x ∈ outSet b ↔ (x 0).val / 128 = b % 128 := mem_outBlk b x

/-- The rows of tile `s`. -/
def rowsOf (s : ℕ) : Finset S16384x128.Idx := (Finset.range 8).biUnion fun u => outSet (8 * s + u)

theorem mem_rowsOf {s : ℕ} (hs : s < 16) (x : S16384x128.Idx) : x ∈ rowsOf s ↔ (x 0).val / 1024 = s := by
  unfold rowsOf
  simp only [Finset.mem_biUnion, Finset.mem_range, mem_outSet]
  have h0 : (x 0).val < 16384 := (x 0).isLt
  constructor
  · rintro ⟨u, hu, h⟩; omega
  · intro h; exact ⟨(x 0).val / 128 % 8, by omega, by omega⟩

theorem rowsOf_disjoint : ∀ s ∈ (Finset.univ : Finset (Fin 16)), ∀ s' ∈ (Finset.univ : Finset (Fin 16)), s ≠ s' → Disjoint (rowsOf s.val) (rowsOf s'.val) := by
  intro s _ s' _ h
  rw [Finset.disjoint_left]; intro x h1 h2
  rw [mem_rowsOf s.isLt] at h1; rw [mem_rowsOf s'.isLt] at h2
  exact h (Fin.ext (h1.symm.trans h2))
theorem rowsOf_cover : (Finset.univ.biUnion fun s : Fin 16 => rowsOf s.val) = (Finset.univ : Finset S16384x128.Idx) := by
  ext x; simp only [Finset.mem_biUnion, Finset.mem_univ, true_and, iff_true]
  have h0 : (x 0).val < 16384 := (x 0).isLt
  exact ⟨⟨(x 0).val / 1024, by omega⟩, (mem_rowsOf (by omega) x).mpr rfl⟩

theorem rows_eq (f : S16384x128.Idx → Elt F .f32) :
    (oLoc d ↦{fullShare} f : sProp 𝕄)
      = bigSep Finset.univ fun s : Fin 16 => bigSep (Finset.range 8) fun u => oLoc d ↦[outSet (8 * s.val + u)]{fullShare} f := by
  have h1 : (oLoc d ↦{fullShare} f : sProp 𝕄) = bigSep Finset.univ fun s : Fin 16 => oLoc d ↦[rowsOf s.val]{fullShare} f := by
    rw [← pointsTo_biUnion Finset.univ (ℓ := oLoc d) (fun s : Fin 16 => rowsOf s.val) rowsOf_disjoint, rowsOf_cover]
  rw [h1]
  refine bigSep_congr fun s _ => ?_
  unfold rowsOf
  exact pointsTo_biUnion (Finset.range 8) (ℓ := oLoc d) (fun u => outSet (8 * s.val + u)) fun u hu u' hu' h => by
    rw [Finset.mem_range] at hu hu'
    have := s.isLt
    exact outBlk_disjoint (b := 8 * s.val + u) (b' := 8 * s.val + u') (by omega) (by omega) (by omega)

/-- A block put into write mode. -/
theorem block_castIn {ιwm : ℕ} (b : ℕ) :
    iprop(wmInv (Ix := HIx 1) (Lvl := ℕ) wmE ιwm ∗ oLoc d ↦[outSet b]{fullShare} f₀)
      ⊢ (iprop(|={Set.univ}=> willBeTo wmE (oLoc d) (outSet b) fullShare f₀ (fun x => some (gOut ft fi x)) ∅) : sProp 𝕄) :=
  pointsTo_castIn (E := Set.univ) (emb := wmE) (I := outSet b) (ℓ := oLoc d) (ιwm := ιwm) (f := f₀) (fun x => some (gOut ft fi x)) (by simp)

/-- A written block taken out of write mode. -/
theorem block_castOut {ιwm : ℕ} (b : ℕ) :
    iprop(wmInv (Ix := HIx 1) (Lvl := ℕ) wmE ιwm ∗ willBeTo wmE (oLoc d) (outSet b) fullShare f₀ (fun x => some (gOut ft fi x)) (outSet b))
      ⊢ (iprop(|={Set.univ}=> oLoc d ↦[outSet b]{fullShare} ((outSet b).piecewise (gOut ft fi) f₀)) : sProp 𝕄) :=
  willBeTo_castOut_some (E := Set.univ) (emb := wmE) (I := outSet b) (W := outSet b) (ℓ := oLoc d) (ιwm := ιwm) (f := f₀) (g := gOut ft fi) (by simp)

theorem halves_split (b : ℕ) :
    (willBeTo wmE (oLoc d) (outSet b) fullShare f₀ (fun x => some (gOut ft fi x)) ∅ : sProp 𝕄)
      ⊢ iprop(oTodo d ft fi f₀ (coreShare 0) b ∗ oTodo d ft fi f₀ (coreShare 1) b) := by
  unfold oTodo coreShare
  simp only [↓reduceIte, one_ne_zero]
  haveI : IsOp fullShare fullShare.left fullShare.right := ⟨PosShare.mem_left_op_right fullShare⟩
  exact (BI.Region.intoSep_willBe_share (q := fullShare) (q₁ := fullShare.left) (q₂ := fullShare.right)).into_sep

theorem halves_join (b : ℕ) :
    iprop(oDone d ft fi f₀ (coreShare 0) b ∗ oDone d ft fi f₀ (coreShare 1) b)
      ⊢ (willBeTo wmE (oLoc d) (outSet b) fullShare f₀ (fun x => some (gOut ft fi x)) (outSet b) : sProp 𝕄) := by
  unfold oDone coreShare
  simp only [↓reduceIte, one_ne_zero]
  haveI : IsOp fullShare fullShare.left fullShare.right := ⟨PosShare.mem_left_op_right fullShare⟩
  exact (BI.Region.fromSep_willBe_share (q := fullShare) (q₁ := fullShare.left) (q₂ := fullShare.right)).from_sep

theorem block_in {ιwm : ℕ} (b : ℕ) :
    iprop(wmInv (Ix := HIx 1) (Lvl := ℕ) wmE ιwm ∗ oLoc d ↦[outSet b]{fullShare} f₀)
      ⊢ (iprop(|={Set.univ}=> (oTodo d ft fi f₀ (coreShare 0) b ∗ oTodo d ft fi f₀ (coreShare 1) b)) : sProp 𝕄) := by
  iintro H
  imod (block_castIn d ft fi f₀ b) $$ H with H
  imodintro
  iapply (halves_split d ft fi f₀ b); iexact H

theorem block_out {ιwm : ℕ} (b : ℕ) :
    iprop(wmInv (Ix := HIx 1) (Lvl := ℕ) wmE ιwm ∗ oDone d ft fi f₀ (coreShare 0) b ∗ oDone d ft fi f₀ (coreShare 1) b)
      ⊢ (iprop(|={Set.univ}=> (oLoc d ↦[outSet b]{fullShare} gOut ft fi)) : sProp 𝕄) := by
  iintro ⟨Hwm, H⟩
  ihave H' := (halves_join d ft fi f₀ b) $$ H
  imod (block_castOut d ft fi f₀ b) $$ [Hwm H'] with H
  · isplitl [Hwm] <;> iassumption
  imodintro
  iapply (Entails.of_eq (pointsTo_congr (ℓ := oLoc d) (I := outSet b) (f := (outSet b).piecewise (gOut ft fi) f₀) (g := gOut ft fi)
    (fun x hx => Finset.piecewise_eq_of_mem _ _ _ hx)))
  iexact H

end Deal

end Cert.Proof
-- ==== Proof.Launch.lean ====
module

public import proofs.«01_k».proof.Proof.Pay

@[expose] public section

/-! # The gather call

What passes between the processors at the call, each tile's task and how a SparseCore deals its part out; and the rows
the call writes, dealt to the two SparseCores before it and put together again after it. -/

noncomputable section

namespace Cert.Proof

open Cert.KernelIdeal Cert.KernelIdeal.Gen

open Idealize.ShloMosaic
open Idealize.ShloMosaic.SparseCore (V)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MM F

section Call
variable (ft : Dev nD → S1000000x128.Idx → Elt F .f32) (fi : Dev nD → S1x16384.Idx → Elt F .i32)
variable (f₀ : Dev nD → S16384x128.Idx → Elt F .f32)

/-- What the handshakes of the call carry. -/
def P : (K (F := F)).Pay (nD := nD) (Val := Elt F) (Name := ℕ) (U := UU F) where
  st := fun q d c => match q with | 0 => stOf d (ft d) (fi d) (f₀ d) c.val
  dn := fun q d c => match q with | 0 => dnOf d (ft d) (fi d) (f₀ d) c.val
  go := fun q d c i => match q with | 0 => goOf d (ft d) (fi d) (f₀ d) c.val (Fin.cast nSub_zero i)
  td := fun q d c i => match q with | 0 => tdOf d (ft d) (fi d) (f₀ d) c.val (Fin.cast nSub_zero i)
  x := fun _ _ => iprop(∃ ιwm, wmInv (Ix := HIx 1) (Lvl := ℕ) wmE ιwm)

instance P_storable : (P ft fi f₀).IsStorable where
  st q d c := match q with | 0 => (inferInstance : BI.Storable (upEmb : UEmb _ 𝕄) (stOf d (ft d) (fi d) (f₀ d) c.val))
  dn q d c := match q with | 0 => (inferInstance : BI.Storable (upEmb : UEmb _ 𝕄) (dnOf d (ft d) (fi d) (f₀ d) c.val))
  go q d c i := match q with | 0 => (inferInstance : BI.Storable (upEmb : UEmb _ 𝕄) (goOf d (ft d) (fi d) (f₀ d) c.val (Fin.cast nSub_zero i)))
  td q d c i := match q with | 0 => (inferInstance : BI.Storable (upEmb : UEmb _ 𝕄) (tdOf d (ft d) (fi d) (f₀ d) c.val (Fin.cast nSub_zero i)))

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0_gather_kernel (F := F) (coordsV c s)
          tV (Memref.isWhole_whole _) iV (Memref.isWhole_whole _) oV (Memref.isWhole_whole _)
          sV (Memref.isWhole_whole _) cc0_scoped1 rV (Memref.isWhole_whole _) cc0_scoped3 cc0_scoped4) ⟨⟩ c s := rfl

theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hF : (K (F := F)).Facts) (hr : ∀ d, InRange (fi d)) : (K (F := F)).TileObl (D (F := F)) 𝒱 (P ft fi f₀) v₀ 0 := by
  intro d c i O W hO _ _
  simp only [show (P ft fi f₀).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body d (coordsV ⟨_, hci.1⟩ ⟨_, hci.2⟩) (ft d) (fi d) (f₀ d) (ShareLeaves.leaf 4 (coreShare c.val) (Fin.cast nSub_zero i))
    (coreShare c.val) O W hF (hr d) hO).trans (wp_mono frame _ _ fun _ => obl_post)

theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

theorem vecSplit : (K (F := F)).VecSplit' (P ft fi f₀) 0 := by
  intro d c
  show stOf d (ft d) (fi d) (f₀ d) c.val ⊢ |={Set.univ}=> iprop(
      (bigSep Finset.univ fun i : Fin ((K (F := F)).nSub 0) => goOf d (ft d) (fi d) (f₀ d) c.val (Fin.cast nSub_zero i))
      ∗ ((bigSep Finset.univ fun i : Fin ((K (F := F)).nSub 0) => tdOf d (ft d) (fi d) (f₀ d) c.val (Fin.cast nSub_zero i))
          -∗ dnOf d (ft d) (fi d) (f₀ d) c.val))
  rw [bigSep_tasks (F := F) (fun i => goOf d (ft d) (fi d) (f₀ d) c.val i), bigSep_tasks (F := F) (fun i => tdOf d (ft d) (fi d) (f₀ d) c.val i),
    stOf_eq, dnOf_eq]
  iintro H; imodintro
  isplitl [H]; · iexact H
  iintro H; iexact H

end Call

/-! ## The call, from the three whole arrays -/

section Whole
variable (d : Dev nD)
variable (ft : S1000000x128.Idx → Elt F .f32) (fi : S1x16384.Idx → Elt F .i32) (f₀ : S16384x128.Idx → Elt F .f32)

theorem share_split {ℓ : Loc nD τ sig} (f : Buf (Elt F) ℓ) :
    (ℓ ↦{fullShare} f : sProp 𝕄) ⊢ iprop((ℓ ↦{coreShare 0} f) ∗ ℓ ↦{coreShare 1} f) := by
  unfold coreShare
  simp only [↓reduceIte, one_ne_zero]
  exact (pointsTo_share (PosShare.mem_left_op_right fullShare)).1
theorem share_join {ℓ : Loc nD τ sig} (f : Buf (Elt F) ℓ) :
    iprop((ℓ ↦{coreShare 0} f) ∗ ℓ ↦{coreShare 1} f) ⊢ (ℓ ↦{fullShare} f : sProp 𝕄) := by
  unfold coreShare
  simp only [↓reduceIte, one_ne_zero]
  exact (pointsTo_share (PosShare.mem_left_op_right fullShare)).2

/-- What can be copied goes along with each part. -/
theorem deal_persistent {ι : Type} [DecidableEq ι] (R : sProp 𝕄) [Persistent R] (s : Finset ι) (Φ : ι → sProp 𝕄) :
    iprop(R ∗ bigSep s Φ) ⊢ bigSep s fun i => iprop(R ∗ Φ i) := by
  rw [bigSep_sep']
  exact sep_mono (bigSep_intro_persistent fun _ _ => .rfl) .rfl

/-- All rows put into write mode, half to each SparseCore. -/
theorem rows_in {ιwm : ℕ} :
    iprop(wmInv (Ix := HIx 1) (Lvl := ℕ) wmE ιwm ∗ oLoc d ↦{fullShare} f₀)
      ⊢ (iprop(|={Set.univ}=> ((bigSep Finset.univ fun s : Fin 16 => todoOf d ft fi f₀ (coreShare 0) s.val)
          ∗ bigSep Finset.univ fun s : Fin 16 => todoOf d ft fi f₀ (coreShare 1) s.val)) : sProp 𝕄) := by
  rw [rows_eq, ← bigSep_sep']
  have hs (s : Fin 16) : iprop(wmInv (Ix := HIx 1) (Lvl := ℕ) wmE ιwm ∗ bigSep (Finset.range 8) fun u => oLoc d ↦[outSet (8 * s.val + u)]{fullShare} f₀)
      ⊢ (iprop(|={Set.univ}=> (todoOf d ft fi f₀ (coreShare 0) s.val ∗ todoOf d ft fi f₀ (coreShare 1) s.val)) : sProp 𝕄) := by
    unfold todoOf
    rw [← bigSep_sep', show Finset.Ico 0 8 = Finset.range 8 from Nat.Ico_zero_eq_range 8]
    refine BI.Entails.trans ?_ (bigSep_fupd (Finset.range 8) fun u => iprop(oTodo d ft fi f₀ (coreShare 0) (8 * s.val + u) ∗ oTodo d ft fi f₀ (coreShare 1) (8 * s.val + u)))
    refine BI.Entails.trans ?_ (bigSep_mono fun u _ => block_in d ft fi f₀ (ιwm := ιwm) (8 * s.val + u))
    exact deal_persistent (wmInv (Ix := HIx 1) (Lvl := ℕ) wmE ιwm) _ _
  refine BI.Entails.trans ?_ (bigSep_fupd Finset.univ fun s : Fin 16 => iprop(todoOf d ft fi f₀ (coreShare 0) s.val ∗ todoOf d ft fi f₀ (coreShare 1) s.val))
  refine BI.Entails.trans ?_ (bigSep_mono fun s _ => hs s)
  exact deal_persistent (wmInv (Ix := HIx 1) (Lvl := ℕ) wmE ιwm) _ _

/-- All rows written, taken out of write mode. -/
theorem rows_out {ιwm : ℕ} :
    iprop(wmInv (Ix := HIx 1) (Lvl := ℕ) wmE ιwm ∗ (bigSep Finset.univ fun s : Fin 16 => doneOf d ft fi f₀ (coreShare 0) s.val)
        ∗ bigSep Finset.univ fun s : Fin 16 => doneOf d ft fi f₀ (coreShare 1) s.val)
      ⊢ (iprop(|={Set.univ}=> (oLoc d ↦{fullShare} gOut ft fi)) : sProp 𝕄) := by
  rw [rows_eq, ← bigSep_sep']
  have hs (s : Fin 16) : iprop(wmInv (Ix := HIx 1) (Lvl := ℕ) wmE ιwm ∗ doneOf d ft fi f₀ (coreShare 0) s.val ∗ doneOf d ft fi f₀ (coreShare 1) s.val)
      ⊢ (iprop(|={Set.univ}=> (bigSep (Finset.range 8) fun u => oLoc d ↦[outSet (8 * s.val + u)]{fullShare} gOut ft fi)) : sProp 𝕄) := by
    unfold doneOf
    rw [← bigSep_sep']
    refine BI.Entails.trans ?_ (bigSep_fupd (Finset.range 8) fun u => oLoc d ↦[outSet (8 * s.val + u)]{fullShare} gOut ft fi)
    refine BI.Entails.trans ?_ (bigSep_mono fun u _ => block_out d ft fi f₀ (ιwm := ιwm) (8 * s.val + u))
    exact deal_persistent (wmInv (Ix := HIx 1) (Lvl := ℕ) wmE ιwm) _ _
  refine BI.Entails.trans ?_ (bigSep_fupd Finset.univ fun s : Fin 16 => bigSep (Finset.range 8) fun u => oLoc d ↦[outSet (8 * s.val + u)]{fullShare} gOut ft fi)
  refine BI.Entails.trans ?_ (bigSep_mono fun s _ => hs s)
  exact deal_persistent (wmInv (Ix := HIx 1) (Lvl := ℕ) wmE ιwm) _ _

theorem starts {ιwm : ℕ} :
    iprop(wmInv (Ix := HIx 1) (Lvl := ℕ) wmE ιwm ∗ (tLoc d ↦{fullShare} ft) ∗ (iLoc d ↦{fullShare} fi) ∗ oLoc d ↦{fullShare} f₀)
      ⊢ (iprop(|={Set.univ}=> (stOf d ft fi f₀ 0 ∗ stOf d ft fi f₀ 1)) : sProp 𝕄) := by
  iintro ⟨Hwm, Ht, Hi, Ho⟩
  imod (rows_in d ft fi f₀) $$ [Hwm Ho] with H
  · isplitl [Hwm] <;> iassumption
  icases H with ⟨H0, H1⟩
  ihave Ht' := (share_split ft) $$ Ht
  icases Ht' with ⟨Ht0, Ht1⟩
  ihave Hi' := (share_split fi) $$ Hi
  icases Hi' with ⟨Hi0, Hi1⟩
  imodintro
  unfold stOf
  isplitl [Ht0 Hi0 H0]
  · isplitl [Ht0]; · iexact Ht0
    isplitl [Hi0] <;> iassumption
  · isplitl [Ht1]; · iexact Ht1
    isplitl [Hi1] <;> iassumption

theorem ends {ιwm : ℕ} :
    iprop(wmInv (Ix := HIx 1) (Lvl := ℕ) wmE ιwm ∗ dnOf d ft fi f₀ 0 ∗ dnOf d ft fi f₀ 1)
      ⊢ (iprop(|={Set.univ}=> ((tLoc d ↦{fullShare} ft) ∗ (iLoc d ↦{fullShare} fi) ∗ oLoc d ↦{fullShare} gOut ft fi)) : sProp 𝕄) := by
  unfold dnOf
  iintro ⟨Hwm, ⟨Ht0, Hi0, H0⟩, ⟨Ht1, Hi1, H1⟩⟩
  imod (rows_out d ft fi f₀) $$ [Hwm H0 H1] with H
  · isplitl [Hwm]; · iexact Hwm
    isplitl [H0] <;> iassumption
  imodintro
  isplitl [Ht0 Ht1]
  · iapply (share_join ft); isplitl [Ht0] <;> iassumption
  isplitl [Hi0 Hi1]
  · iapply (share_join fi); isplitl [Hi0] <;> iassumption
  iexact H

end Whole

end Cert.Proof
-- ==== Proof.Dense.lean ====
module

public import proofs.«01_k».proof.Proof.Launch
public import Idealize.ShloMosaic.Lib.Pipeline.RegionsLoop
public import Idealize.ShloMosaic.Lib.Pipeline.FrameBody

@[expose] public section

/-! # The dense layers' body

One block of 1024 rows: what the body stores, as a function of what its twelve operands' buffers read, and the run of the
body from those thirteen buffers. -/

noncomputable section

namespace Cert.Proof

open Cert.KernelIdeal Cert.KernelIdeal.Gen

open Idealize.ShloMosaic
open Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MM F

/-- What a load through the box of the given sizes at the given corner reads of contents `X`. -/
abbrev at_ {S : Shape} {e : EltTy} (X : S.Idx → Elt F e) (r : Rect S) : r.shape.Idx → Elt F e := View.ld X r

/-- The block of results the body stores. -/
def denseBlk (X1 : S1024x128.Idx → Elt F .f32)
    (X2 : S1024x1.Idx → Elt F .f32)
    (X3 : S1024x1.Idx → Elt F .i32)
    (X4 : S1x128.Idx → Elt F .f32)
    (X5 : S1x128.Idx → Elt F .f32)
    (X6 : S128x128.Idx → Elt F .bf16)
    (X7 : S1x128.Idx → Elt F .f32)
    (X8 : S384x512.Idx → Elt F .bf16)
    (X9 : S1x512.Idx → Elt F .f32)
    (X10 : S512x2000.Idx → Elt F .bf16)
    (X11 : S1x2000.Idx → Elt F .f32)
    (X12 : S128x128.Idx → Elt F .bf16) : S1024x2000.Idx → Elt F .f32 :=
  View.canon [⟨Rect.unit (s := S1024x2000) ![0, 0] S1024x2000.size inb_S1024x2000_S1024x2000_0_0,
    k1_pay1
      (k1_pay2 (at_ X3 (Rect.unit ![0, 0] S1024x1.size inb_S1024x1_S1024x1_0_0)) (at_ X12 (Rect.unit ![0, 0] S128x128.size inb_S128x128_S128x128_0_0)))
      (k1_pay3 (at_ X1 (Rect.unit ![0, 0] S1024x128.size inb_S1024x128_S1024x128_0_0)) (at_ X8 (Rect.unit ![0, 0] S128x512.size inb_S384x512_S128x512_0_0)))
      (k1_pay4 (at_ X2 (Rect.unit ![0, 0] S1024x1.size inb_S1024x1_S1024x1_0_0)) (at_ X4 (Rect.unit ![0, 0] S1x128.size inb_S1x128_S1x128_0_0))
        (at_ X5 (Rect.unit ![0, 0] S1x128.size inb_S1x128_S1x128_0_0)) (at_ X6 (Rect.unit ![0, 0] S128x128.size inb_S128x128_S128x128_0_0))
        (at_ X7 (Rect.unit ![0, 0] S1x128.size inb_S1x128_S1x128_0_0)))
      (at_ X8 (Rect.unit ![128, 0] S128x512.size inb_S384x512_S128x512_128_0)) (at_ X8 (Rect.unit ![256, 0] S128x512.size inb_S384x512_S128x512_256_0))
      (at_ X9 (Rect.unit ![0, 0] S1x512.size inb_S1x512_S1x512_0_0)) (at_ X10 (Rect.unit ![0, 0] S512x2000.size inb_S512x2000_S512x2000_0_0))
      (at_ X11 (Rect.unit ![0, 0] S1x2000.size inb_S1x2000_S1x2000_0_0))⟩]

/-- The twelve operands' buffers, each whole, at what they read. -/
def operands (c : Dev nD) (M1 : Memref sig .tc .vmem S1024x128 .f32) (h1 : M1.IsWhole)
    (M2 : Memref sig .tc .vmem S1024x1 .f32) (h2 : M2.IsWhole)
    (M3 : Memref sig .tc .vmem S1024x1 .i32) (h3 : M3.IsWhole)
    (M4 : Memref sig .tc .vmem S1x128 .f32) (h4 : M4.IsWhole)
    (M5 : Memref sig .tc .vmem S1x128 .f32) (h5 : M5.IsWhole)
    (M6 : Memref sig .tc .vmem S128x128 .bf16) (h6 : M6.IsWhole)
    (M7 : Memref sig .tc .vmem S1x128 .f32) (h7 : M7.IsWhole)
    (M8 : Memref sig .tc .vmem S384x512 .bf16) (h8 : M8.IsWhole)
    (M9 : Memref sig .tc .vmem S1x512 .f32) (h9 : M9.IsWhole)
    (M10 : Memref sig .tc .vmem S512x2000 .bf16) (h10 : M10.IsWhole)
    (M11 : Memref sig .tc .vmem S1x2000 .f32) (h11 : M11.IsWhole)
    (M12 : Memref sig .tc .vmem S128x128 .bf16) (h12 : M12.IsWhole)
    (X1 : S1024x128.Idx → Elt F .f32)
    (X2 : S1024x1.Idx → Elt F .f32)
    (X3 : S1024x1.Idx → Elt F .i32)
    (X4 : S1x128.Idx → Elt F .f32)
    (X5 : S1x128.Idx → Elt F .f32)
    (X6 : S128x128.Idx → Elt F .bf16)
    (X7 : S1x128.Idx → Elt F .f32)
    (X8 : S384x512.Idx → Elt F .bf16)
    (X9 : S1x512.Idx → Elt F .f32)
    (X10 : S512x2000.Idx → Elt F .bf16)
    (X11 : S1x2000.Idx → Elt F .f32)
    (X12 : S128x128.Idx → Elt F .bf16) : sProp 𝕄 :=
  iprop(owns (c : Thread nD τ) M1 fullShare X1 ∗ owns (c : Thread nD τ) M2 fullShare X2 ∗ owns (c : Thread nD τ) M3 fullShare X3 ∗ owns (c : Thread nD τ) M4 fullShare X4 ∗ owns (c : Thread nD τ) M5 fullShare X5 ∗ owns (c : Thread nD τ) M6 fullShare X6 ∗ owns (c : Thread nD τ) M7 fullShare X7 ∗ owns (c : Thread nD τ) M8 fullShare X8 ∗ owns (c : Thread nD τ) M9 fullShare X9 ∗ owns (c : Thread nD τ) M10 fullShare X10 ∗ owns (c : Thread nD τ) M11 fullShare X11 ∗ owns (c : Thread nD τ) M12 fullShare X12)

set_option maxRecDepth 16384 in
/-- The body, run: the operands' buffers are as they were, the result's reads the block. -/
theorem dense_run (c : Dev nD) (i : grid1.Coords) (M1 : Memref sig .tc .vmem S1024x128 .f32) (h1 : M1.IsWhole)
    (M2 : Memref sig .tc .vmem S1024x1 .f32) (h2 : M2.IsWhole)
    (M3 : Memref sig .tc .vmem S1024x1 .i32) (h3 : M3.IsWhole)
    (M4 : Memref sig .tc .vmem S1x128 .f32) (h4 : M4.IsWhole)
    (M5 : Memref sig .tc .vmem S1x128 .f32) (h5 : M5.IsWhole)
    (M6 : Memref sig .tc .vmem S128x128 .bf16) (h6 : M6.IsWhole)
    (M7 : Memref sig .tc .vmem S1x128 .f32) (h7 : M7.IsWhole)
    (M8 : Memref sig .tc .vmem S384x512 .bf16) (h8 : M8.IsWhole)
    (M9 : Memref sig .tc .vmem S1x512 .f32) (h9 : M9.IsWhole)
    (M10 : Memref sig .tc .vmem S512x2000 .bf16) (h10 : M10.IsWhole)
    (M11 : Memref sig .tc .vmem S1x2000 .f32) (h11 : M11.IsWhole)
    (M12 : Memref sig .tc .vmem S128x128 .bf16) (h12 : M12.IsWhole)
    (M13 : Memref sig .tc .vmem S1024x2000 .f32) (h13 : M13.IsWhole)
    (X1 : S1024x128.Idx → Elt F .f32)
    (X2 : S1024x1.Idx → Elt F .f32)
    (X3 : S1024x1.Idx → Elt F .i32)
    (X4 : S1x128.Idx → Elt F .f32)
    (X5 : S1x128.Idx → Elt F .f32)
    (X6 : S128x128.Idx → Elt F .bf16)
    (X7 : S1x128.Idx → Elt F .f32)
    (X8 : S384x512.Idx → Elt F .bf16)
    (X9 : S1x512.Idx → Elt F .f32)
    (X10 : S512x2000.Idx → Elt F .bf16)
    (X11 : S1x2000.Idx → Elt F .f32)
    (X12 : S128x128.Idx → Elt F .bf16) (Y : S1024x2000.Idx → Elt F .f32) (E : Set ℕ) :
    iprop(operands (F := F) c M1 h1 M2 h2 M3 h3 M4 h4 M5 h5 M6 h6 M7 h7 M8 h8 M9 h9 M10 h10 M11 h11 M12 h12 X1 X2 X3 X4 X5 X6 X7 X8 X9 X10 X11 X12 ∗ owns (c : Thread nD τ) M13 fullShare Y)
      ⊢ wp frame (wpE (defs₀ (F := F)) Variants.none (c : Thread nD τ) none) E (cc1__dense_body i M1 h1 M2 h2 M3 h3 M4 h4 M5 h5 M6 h6 M7 h7 M8 h8 M9 h9 M10 h10 M11 h11 M12 h12 M13 h13)
          fun _ => (iprop(operands (F := F) c M1 h1 M2 h2 M3 h3 M4 h4 M5 h5 M6 h6 M7 h7 M8 h8 M9 h9 M10 h10 M11 h11 M12 h12 X1 X2 X3 X4 X5 X6 X7 X8 X9 X10 X11 X12 ∗ owns (c : Thread nD τ) M13 fullShare (denseBlk X1 X2 X3 X4 X5 X6 X7 X8 X9 X10 X11 X12)) : sProp 𝕄) := by
  rw [cc1__dense_body_eq_skeleton]
  unfold operands owns
  simp only [h1.set_eq_univ, h2.set_eq_univ, h3.set_eq_univ, h4.set_eq_univ, h5.set_eq_univ, h6.set_eq_univ, h7.set_eq_univ, h8.set_eq_univ, h9.set_eq_univ, h10.set_eq_univ, h11.set_eq_univ, h12.set_eq_univ, h13.set_eq_univ]
  iintro ⟨⟨⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f11, %e11, H11⟩, ⟨%f12, %e12, H12⟩⟩, ⟨%f13, %e13, H13⟩⟩
  subst e1
  subst e2
  subst e3
  subst e4
  subst e5
  subst e6
  subst e7
  subst e8
  subst e9
  subst e10
  subst e11
  subst e12
  sl_exec!
  sl_step
  isplitr [H13]
  · isplitl [H1]; · iexists f1; isplitr; swap; (· iexact H1); ipureintro; rfl
    isplitl [H2]; · iexists f2; isplitr; swap; (· iexact H2); ipureintro; rfl
    isplitl [H3]; · iexists f3; isplitr; swap; (· iexact H3); ipureintro; rfl
    isplitl [H4]; · iexists f4; isplitr; swap; (· iexact H4); ipureintro; rfl
    isplitl [H5]; · iexists f5; isplitr; swap; (· iexact H5); ipureintro; rfl
    isplitl [H6]; · iexists f6; isplitr; swap; (· iexact H6); ipureintro; rfl
    isplitl [H7]; · iexists f7; isplitr; swap; (· iexact H7); ipureintro; rfl
    isplitl [H8]; · iexists f8; isplitr; swap; (· iexact H8); ipureintro; rfl
    isplitl [H9]; · iexists f9; isplitr; swap; (· iexact H9); ipureintro; rfl
    isplitl [H10]; · iexists f10; isplitr; swap; (· iexact H10); ipureintro; rfl
    isplitl [H11]; · iexists f11; isplitr; swap; (· iexact H11); ipureintro; rfl
    iexists f12; isplitr; swap; (· iexact H12); ipureintro; rfl
  · iexists _; isplitr; swap; (· iexact H13); ipureintro
    rw [View.read_writes_eq_canon]
    · rfl
    · intro y
      refine ⟨_, List.mem_singleton.2 rfl, ?_⟩
      rw [Rect.set_eq_univ_of_whole (s := S1024x2000) _ (fun a => ⟨by fin_cases a <;> rfl, rfl, rfl⟩)]
      exact Finset.mem_univ _

end Cert.Proof
-- ==== Proof.Region.lean ====
module

public import proofs.«01_k».proof.Proof.Dense
public import proofs.«01_k».proof.Proof.Gen.KernelIdeal.Launch
public import proofs.«01_k».proof.Proof.Gen.KernelIdeal.Points

@[expose] public section

/-! # The dense layers' call

The TensorCore's pipelined call over the 16 blocks of rows, entered with every array of the core at a valuation and left
with the result's array at what the blocks' write-backs make of it. -/

noncomputable section

namespace Cert.Proof

open Cert.KernelIdeal Cert.KernelIdeal.Gen

open Idealize.ShloMosaic
open Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Idealize.ShloMosaic.Tactic

variable {F : FTy → Type} [FloatOps F]

local notation "𝕄" => MM F

variable (V : Dev nD → Valuation τ sig (Elt F))

/-! Each operand's block at point `t`, of the array as the call finds it. -/

abbrev opd0 (c : Dev nD) (t : Fin cfg1.N) : S1024x128.Idx → Elt F .f32 :=
  ((cfg1.win 0).blk t).view.read (Elt F) (V c (Proc.devRef .tc (Pipeline.arrRef spec1 0)))
abbrev opd1 (c : Dev nD) (t : Fin cfg1.N) : S1024x1.Idx → Elt F .f32 :=
  ((cfg1.win 1).blk t).view.read (Elt F) (V c (Proc.devRef .tc (Pipeline.arrRef spec1 1)))
abbrev opd2 (c : Dev nD) (t : Fin cfg1.N) : S1024x1.Idx → Elt F .i32 :=
  ((cfg1.win 2).blk t).view.read (Elt F) (V c (Proc.devRef .tc (Pipeline.arrRef spec1 2)))
abbrev opd3 (c : Dev nD) (t : Fin cfg1.N) : S1x128.Idx → Elt F .f32 :=
  ((cfg1.win 3).blk t).view.read (Elt F) (V c (Proc.devRef .tc (Pipeline.arrRef spec1 3)))
abbrev opd4 (c : Dev nD) (t : Fin cfg1.N) : S1x128.Idx → Elt F .f32 :=
  ((cfg1.win 4).blk t).view.read (Elt F) (V c (Proc.devRef .tc (Pipeline.arrRef spec1 4)))
abbrev opd5 (c : Dev nD) (t : Fin cfg1.N) : S128x128.Idx → Elt F .bf16 :=
  ((cfg1.win 5).blk t).view.read (Elt F) (V c (Proc.devRef .tc (Pipeline.arrRef spec1 5)))
abbrev opd6 (c : Dev nD) (t : Fin cfg1.N) : S1x128.Idx → Elt F .f32 :=
  ((cfg1.win 6).blk t).view.read (Elt F) (V c (Proc.devRef .tc (Pipeline.arrRef spec1 6)))
abbrev opd7 (c : Dev nD) (t : Fin cfg1.N) : S384x512.Idx → Elt F .bf16 :=
  ((cfg1.win 7).blk t).view.read (Elt F) (V c (Proc.devRef .tc (Pipeline.arrRef spec1 7)))
abbrev opd8 (c : Dev nD) (t : Fin cfg1.N) : S1x512.Idx → Elt F .f32 :=
  ((cfg1.win 8).blk t).view.read (Elt F) (V c (Proc.devRef .tc (Pipeline.arrRef spec1 8)))
abbrev opd9 (c : Dev nD) (t : Fin cfg1.N) : S512x2000.Idx → Elt F .bf16 :=
  ((cfg1.win 9).blk t).view.read (Elt F) (V c (Proc.devRef .tc (Pipeline.arrRef spec1 9)))
abbrev opd10 (c : Dev nD) (t : Fin cfg1.N) : S1x2000.Idx → Elt F .f32 :=
  ((cfg1.win 10).blk t).view.read (Elt F) (V c (Proc.devRef .tc (Pipeline.arrRef spec1 10)))
abbrev opd11 (c : Dev nD) (t : Fin cfg1.N) : S128x128.Idx → Elt F .bf16 :=
  ((cfg1.win 11).blk t).view.read (Elt F) (V c (Proc.devRef .tc (Pipeline.arrRef spec1 11)))

/-- The block of results at point `t`. -/
def resAt (c : Dev nD) (t : Fin cfg1.N) : S1024x2000.Idx → Elt F .f32 :=
  denseBlk (opd0 V c t) (opd1 V c t) (opd2 V c t) (opd3 V c t) (opd4 V c t) (opd5 V c t) (opd6 V c t) (opd7 V c t) (opd8 V c t) (opd9 V c t) (opd10 V c t) (opd11 V c t)

/-- The waits recorded so far lie at or below the gather call's last level. -/
abbrev below (c : Dev nD) : Set (SemLoc sig × HIx 1) := {p | (K (F := F)).lev (SparseCore.T c, p.1) p.2 ≤ 8 * SparseCore.Cfg.Blocks.fst (Q := 1) (N := 1) 1}

/-- The call's data: the arrays at the valuation, each operand's buffer left at its block, the result's at the block of results. -/
def dat (c : Dev nD) : Dat τ (Elt F) (HIx 1) ℕ (UU F) ℕ cfg1 c where
  A w := V c (Proc.devRef .tc (Pipeline.arrRef spec1 w))
  after w t := match w with
    | ⟨0, _⟩ => opd0 V c t
    | ⟨1, _⟩ => opd1 V c t
    | ⟨2, _⟩ => opd2 V c t
    | ⟨3, _⟩ => opd3 V c t
    | ⟨4, _⟩ => opd4 V c t
    | ⟨5, _⟩ => opd5 V c t
    | ⟨6, _⟩ => opd6 V c t
    | ⟨7, _⟩ => opd7 V c t
    | ⟨8, _⟩ => opd8 V c t
    | ⟨9, _⟩ => opd9 V c t
    | ⟨10, _⟩ => opd10 V c t
    | ⟨11, _⟩ => opd11 V c t
    | ⟨12, _⟩ => resAt V c t
  Φ _ := BI.emp
  q _ := fullShare
  owed _ := 0
  recorded _ := below (F := F) c

section Before
variable (c : Dev nD)
theorem before0 (t : Fin cfg1.N) (d : (cfg1.win 0).block.Idx → Elt F (cfg1.win 0).elt) : (dat V c).before 0 t d = opd0 V c t :=
  (dat V c).before_in_eq_fetched 0 rfl (fun _ => rfl) (fun _ _ _ => rfl) (fun _ => rfl) t d
theorem before1 (t : Fin cfg1.N) (d : (cfg1.win 1).block.Idx → Elt F (cfg1.win 1).elt) : (dat V c).before 1 t d = opd1 V c t :=
  (dat V c).before_in_eq_fetched 1 rfl (fun _ => rfl) (fun _ _ _ => rfl) (fun _ => rfl) t d
theorem before2 (t : Fin cfg1.N) (d : (cfg1.win 2).block.Idx → Elt F (cfg1.win 2).elt) : (dat V c).before 2 t d = opd2 V c t :=
  (dat V c).before_in_eq_fetched 2 rfl (fun _ => rfl) (fun _ _ _ => rfl) (fun _ => rfl) t d
theorem before3 (t : Fin cfg1.N) (d : (cfg1.win 3).block.Idx → Elt F (cfg1.win 3).elt) : (dat V c).before 3 t d = opd3 V c t :=
  (dat V c).before_in_eq_fetched 3 rfl (fun _ => rfl) (fun _ _ _ => rfl) (fun _ => rfl) t d
theorem before4 (t : Fin cfg1.N) (d : (cfg1.win 4).block.Idx → Elt F (cfg1.win 4).elt) : (dat V c).before 4 t d = opd4 V c t :=
  (dat V c).before_in_eq_fetched 4 rfl (fun _ => rfl) (fun _ _ _ => rfl) (fun _ => rfl) t d
theorem before5 (t : Fin cfg1.N) (d : (cfg1.win 5).block.Idx → Elt F (cfg1.win 5).elt) : (dat V c).before 5 t d = opd5 V c t :=
  (dat V c).before_in_eq_fetched 5 rfl (fun _ => rfl) (fun _ _ _ => rfl) (fun _ => rfl) t d
theorem before6 (t : Fin cfg1.N) (d : (cfg1.win 6).block.Idx → Elt F (cfg1.win 6).elt) : (dat V c).before 6 t d = opd6 V c t :=
  (dat V c).before_in_eq_fetched 6 rfl (fun _ => rfl) (fun _ _ _ => rfl) (fun _ => rfl) t d
theorem before7 (t : Fin cfg1.N) (d : (cfg1.win 7).block.Idx → Elt F (cfg1.win 7).elt) : (dat V c).before 7 t d = opd7 V c t :=
  (dat V c).before_in_eq_fetched 7 rfl (fun _ => rfl) (fun _ _ _ => rfl) (fun _ => rfl) t d
theorem before8 (t : Fin cfg1.N) (d : (cfg1.win 8).block.Idx → Elt F (cfg1.win 8).elt) : (dat V c).before 8 t d = opd8 V c t :=
  (dat V c).before_in_eq_fetched 8 rfl (fun _ => rfl) (fun _ _ _ => rfl) (fun _ => rfl) t d
theorem before9 (t : Fin cfg1.N) (d : (cfg1.win 9).block.Idx → Elt F (cfg1.win 9).elt) : (dat V c).before 9 t d = opd9 V c t :=
  (dat V c).before_in_eq_fetched 9 rfl (fun _ => rfl) (fun _ _ _ => rfl) (fun _ => rfl) t d
theorem before10 (t : Fin cfg1.N) (d : (cfg1.win 10).block.Idx → Elt F (cfg1.win 10).elt) : (dat V c).before 10 t d = opd10 V c t :=
  (dat V c).before_in_eq_fetched 10 rfl (fun _ => rfl) (fun _ _ _ => rfl) (fun _ => rfl) t d
theorem before11 (t : Fin cfg1.N) (d : (cfg1.win 11).block.Idx → Elt F (cfg1.win 11).elt) : (dat V c).before 11 t d = opd11 V c t :=
  (dat V c).before_in_eq_fetched 11 rfl (fun _ => rfl) (fun _ _ _ => rfl) (fun _ => rfl) t d
theorem after0 (t : Fin cfg1.N) : (dat V c).after 0 t = opd0 V c t := rfl
theorem after1 (t : Fin cfg1.N) : (dat V c).after 1 t = opd1 V c t := rfl
theorem after2 (t : Fin cfg1.N) : (dat V c).after 2 t = opd2 V c t := rfl
theorem after3 (t : Fin cfg1.N) : (dat V c).after 3 t = opd3 V c t := rfl
theorem after4 (t : Fin cfg1.N) : (dat V c).after 4 t = opd4 V c t := rfl
theorem after5 (t : Fin cfg1.N) : (dat V c).after 5 t = opd5 V c t := rfl
theorem after6 (t : Fin cfg1.N) : (dat V c).after 6 t = opd6 V c t := rfl
theorem after7 (t : Fin cfg1.N) : (dat V c).after 7 t = opd7 V c t := rfl
theorem after8 (t : Fin cfg1.N) : (dat V c).after 8 t = opd8 V c t := rfl
theorem after9 (t : Fin cfg1.N) : (dat V c).after 9 t = opd9 V c t := rfl
theorem after10 (t : Fin cfg1.N) : (dat V c).after 10 t = opd10 V c t := rfl
theorem after11 (t : Fin cfg1.N) : (dat V c).after 11 t = opd11 V c t := rfl
theorem after12 (t : Fin cfg1.N) : (dat V c).after 12 t = resAt V c t := by dsimp only [dat]
end Before

set_option maxRecDepth 16384 in
set_option maxHeartbeats 1000000 in
/-- The body at each point. -/
theorem body_obligation (c : Dev nD) : BodyObligation (dat V c) (defs₀ (F := F)) Variants.none (none : HIx 1) Set.univ := fun t => by
  rw [bigSep_W1, bigSep_W1]
  rw [show (dat V c).Φ t.castSucc = BI.emp from rfl, show (dat V c).Φ t.succ = BI.emp from rfl,
    show (dat V c).owesAt none t.succ = (dat V c).owesAt none t.castSucc from rfl]
  simp only [before0, before1, before2, before3, before4, before5, before6, before7, before8, before9, before10, before11,
    show ∀ w i, cfg1.idle w i = false from fun _ _ => rfl, after0, after1, after2, after3, after4, after5, after6, after7, after8, after9, after10, after11, after12]
  change _ ⊢ wp _ _ _ (bodyAt1 t) _
  iintro ⟨-, Howes, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply (wp_wand_r frame (wpE (defs₀ (F := F)) Variants.none (c : Thread nD τ) none) Set.univ)
  isplitl [H0 H1 H2 H3 H4 H5 H6 H7 H8 H9 H10 H11 H12]
  · iapply (dense_run c (grid1.coords t) ((cfg1.win 0).stage (cfg1.slots t 0)) (hstage1_0 ((cfg1.slots t 0).cast nbuf1_0)) ((cfg1.win 1).stage (cfg1.slots t 1)) (hstage1_1 ((cfg1.slots t 1).cast nbuf1_1)) ((cfg1.win 2).stage (cfg1.slots t 2)) (hstage1_2 ((cfg1.slots t 2).cast nbuf1_2)) ((cfg1.win 3).stage (cfg1.slots t 3)) (hstage1_3 ((cfg1.slots t 3).cast nbuf1_3)) ((cfg1.win 4).stage (cfg1.slots t 4)) (hstage1_4 ((cfg1.slots t 4).cast nbuf1_4)) ((cfg1.win 5).stage (cfg1.slots t 5)) (hstage1_5 ((cfg1.slots t 5).cast nbuf1_5)) ((cfg1.win 6).stage (cfg1.slots t 6)) (hstage1_6 ((cfg1.slots t 6).cast nbuf1_6)) ((cfg1.win 7).stage (cfg1.slots t 7)) (hstage1_7 ((cfg1.slots t 7).cast nbuf1_7)) ((cfg1.win 8).stage (cfg1.slots t 8)) (hstage1_8 ((cfg1.slots t 8).cast nbuf1_8)) ((cfg1.win 9).stage (cfg1.slots t 9)) (hstage1_9 ((cfg1.slots t 9).cast nbuf1_9)) ((cfg1.win 10).stage (cfg1.slots t 10)) (hstage1_10 ((cfg1.slots t 10).cast nbuf1_10)) ((cfg1.win 11).stage (cfg1.slots t 11)) (hstage1_11 ((cfg1.slots t 11).cast nbuf1_11)) ((cfg1.win 12).stage (cfg1.slots t 12)) (hstage1_12 ((cfg1.slots t 12).cast nbuf1_12))
      (opd0 V c t) (opd1 V c t) (opd2 V c t) (opd3 V c t) (opd4 V c t) (opd5 V c t) (opd6 V c t) (opd7 V c t) (opd8 V c t) (opd9 V c t) (opd10 V c t) (opd11 V c t) ((dat V c).before 12 t d12) Set.univ)
    isplitr [H12]; swap; · iexact H12
    unfold operands
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11
  · iintro %_ ⟨Hops, H12⟩
    isplitr; · iempintro
    isplitl [Howes]; · iexact Howes
    unfold operands
    icases Hops with ⟨H0, H1, H2, H3, H4, H5, H6, H7, H8, H9, H10, H11⟩
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexact H12

end Cert.Proof
-- ==== Proof.DenseCall.lean ====
module

public import proofs.«01_k».proof.Proof.Region
public import Idealize.ShloMosaic.Lib.Pipeline.FrameTail

@[expose] public section

/-! # Entering and leaving the dense layers' call -/

noncomputable section

namespace Cert.Proof

open Cert.KernelIdeal Cert.KernelIdeal.Gen

open Idealize.ShloMosaic
open Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Idealize.ShloMosaic.Tactic

variable {F : FTy → Type} [FloatOps F]

local notation "𝕄" => MM F

variable (V : Dev nD → Valuation τ sig (Elt F))

abbrev adm : (p : Fin 1) → (pcfgs (F := F) p).Adm := fun p => (cfgs p).toPCfg_adm

def pdats : (p : Fin 1) → (c : Dev nD) → Dat τ (Elt F) (HIx 1) ℕ (UU F) ℕ (Pipeline.pin (pcfgs (F := F)) adm p) c
  | ⟨0, _⟩ => fun c => dat V c

/-- Every buffer after the call. -/
def afterDense (c : Dev nD) : Valuation τ sig (Elt F) := Pipeline.afterRegion (dat V c) (V c)

/-- The waits the core has recorded, and nothing owed. -/
abbrev settled (c : Dev nD) : sProp 𝕄 :=
  iprop(∃ W, ⌜(K (F := F)).WBelow (SparseCore.T c) W (8 * SparseCore.Cfg.Blocks.fst (Q := 1) (N := 1) 1)⌝ ∗ owes (SparseCore.T c) (0 : CellTallies nD τ sig (HIx 1)) W)

set_option backward.isDefEq.respectTransparency.types false in
/-- The call as a step of the core's program, over every array of the core. -/
def reg : Pipeline.RegionSeg (pcfgs (F := F)) adm (pdats V) (none : HIx 1) defs₀ 𝒱₀ (K (F := F)).L (K (F := F)).lev 0 where
  win := launch1.win.to₀
  block_pos := launch1.block_pos
  stage_whole := launch1.stage_whole
  K := PEmpty
  osem k := k.elim
  ho := Pipeline.OwnSemFacts.none _
  hbody c := (body_obligation V c).loose
  hwaits := Pipeline.hwaits_of_owed_zero _ _ _ _ _ _ 0 fun _ _ => rfl
  pre c := iprop(StableHlo.held (SparseCore.T c) (Pipeline.ucRefs τ sig) (V c) ∗ settled (F := F) c)
  post c := iprop(StableHlo.held (SparseCore.T c) (Pipeline.ucRefs τ sig) (afterDense V c) ∗ settled (F := F) c)
  X _ := BI.emp
  Y _ := BI.emp
  Z c := Pipeline.unscopedRest (Ix := HIx 1) (Name := ℕ) (U := UU F) (Lvl := ℕ) spec1 c (fun b => V c (Proc.devRef .tc b))
  hentry c := by
    rw [Pipeline.ownSems0_none,
      show StableHlo.held (SparseCore.T c) (Pipeline.ucRefs τ sig) (V c) = unscopedBufs c (fun b => V c (Proc.devRef .tc b))
        from (Pipeline.unscopedBufs_held (Ix := HIx 1) (Name := ℕ) (U := UU F) (Lvl := ℕ) c (V c)).symm]
    have hsplit := Pipeline.arrays_of_unscopedBufs (p := 0) (pcfgs (F := F)) adm (pdats V) launch1.win launch1.arr_whole c
      ((pdats V 0 c).share_full fun _ => rfl) (fun b => V c (Proc.devRef .tc b)) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr
      · ipureintro; exact fun p hp => Or.inl (hW p hp)
      iexact HO
    isplitr; · iempintro
    iexact Hrest
  hin c := by
    rw [show (pdats V 0 c).Φ 0 = BI.emp from rfl]
    iintro -; iempintro
  hout c := by
    rw [Pipeline.ownSems0_none, show (pdats V 0 c).Φ (Fin.last _) = BI.emp from rfl,
      show Pipeline.scopedRest (pcfgs (F := F) 0).spec c = (BI.emp : sProp 𝕄) from scopedRest1_eq c]
    iintro -
    isplitr; · iempintro
    isplitr; · iempintro
    iempintro
  hexit c := by
    have hjoin := Pipeline.unscopedBufs_of_arrays (p := 0) (pcfgs (F := F)) adm (Ix := HIx 1) (Name := ℕ) (U := UU F) (Lvl := ℕ) launch1.win launch1.arr_whole c
      (pdats V) ((pdats V 0 c).share_full fun _ => rfl) (fun b => V c (Proc.devRef .tc b)) (fun b => afterDense V c (Proc.devRef .tc b)) ((pdats V 0 c).arrAt · cfg1.N)
      (fun w => (Pipeline.afterRegion_arr (dat V c) (V c) launch1.win.arr_inj w).symm)
      (fun b hb => Pipeline.afterRegion_of_not_arr (dat V c) (V c)
        fun w h => hb (h ▸ Finset.mem_image.mpr ⟨w, Finset.mem_univ _, rfl⟩))
    rw [show StableHlo.held (SparseCore.T c) (Pipeline.ucRefs τ sig) (afterDense V c) = unscopedBufs c (fun b => afterDense V c (Proc.devRef .tc b))
        from (Pipeline.unscopedBufs_held (Ix := HIx 1) (Name := ℕ) (U := UU F) (Lvl := ℕ) c (afterDense V c)).symm]
    iintro ⟨Ha, HO, -, Hrest⟩
    imodintro
    isplitl [Ha Hrest]
    · iapply hjoin; isplitl [Ha] <;> iassumption
    unfold Pipeline.Dat.owesAt Pipeline.owesWithin
    icases HO with ⟨%W, %hW, HO⟩; iexists W
    isplitr
    · ipureintro
      intro p hp
      rcases hW hp with h | ⟨w, s, rfl⟩
      · exact h
      · exact Nat.zero_le _
    iexact HO

/-- The launch's share of the call's protocol, for core `c`. -/
abbrev callGhost (c : Dev nD) : sProp 𝕄 :=
  iprop(Pipeline.cellsGhost (Pipeline.pin (pcfgs (F := F)) adm) EP 0 c ∗ Pipeline.toksInit (Pipeline.pin (pcfgs (F := F)) adm) EP 0 c)

/-- What the call leaves. -/
abbrev denseDone (c : Dev nD) : sProp 𝕄 :=
  iprop(boundary (SparseCore.T c) ∗ StableHlo.held (SparseCore.T c) (Pipeline.ucRefs τ sig) (afterDense V c) ∗ settled (F := F) c)

set_option backward.isDefEq.respectTransparency.types false in
theorem wp_dense_raw [∀ e, Nonempty (Elt F e)] (c : Dev nD) :
    (iprop((iprop(boundary (SparseCore.T c) ∗ StableHlo.held (SparseCore.T c) (Pipeline.ucRefs τ sig) (afterDense V c) ∗ settled (F := F) c)
          -∗ wp frame (wpE (D (F := F)) 𝒱 (SparseCore.T c) none) Set.univ (Prog.ret PUnit.unit) fun _ => denseDone V c)
        ∗ boundary (SparseCore.T c) ∗ iprop(StableHlo.held (SparseCore.T c) (Pipeline.ucRefs τ sig) (V c) ∗ settled (F := F) c)
        ∗ levAts (K (F := F)).L (K (F := F)).lev ∗ callGhost (F := F) c) : sProp 𝕄)
      ⊢ (wp frame (wpE (D (F := F)) 𝒱 (SparseCore.T c) none) Set.univ (Prog.lift (.customCall (Pipeline.entry 0) ())) fun _ => denseDone V c : sProp 𝕄) :=
  Pipeline.RegionSeg.wp (pcfgs (F := F)) adm (pdats V) (none : HIx 1) cellOf_inj EP defs₀ 𝒱₀ (K (F := F)).L (K (F := F)).lev (reg V) c
    none (fun _ hu => nomatch hu) (fun x => Prog.ret x) (fun _ => denseDone V c)

/-- The call's holdings, put the way the region's rule takes them. -/
theorem dense_regroup (c : Dev nD) :
    (iprop(boundary (SparseCore.T c) ∗ StableHlo.held (SparseCore.T c) (Pipeline.ucRefs τ sig) (V c) ∗ settled (F := F) c
        ∗ levAts (K (F := F)).L (K (F := F)).lev ∗ callGhost (F := F) c) : sProp 𝕄)
      ⊢ (iprop((iprop(boundary (SparseCore.T c) ∗ StableHlo.held (SparseCore.T c) (Pipeline.ucRefs τ sig) (afterDense V c) ∗ settled (F := F) c)
          -∗ wp frame (wpE (D (F := F)) 𝒱 (SparseCore.T c) none) Set.univ (Prog.ret PUnit.unit) fun _ => denseDone V c)
        ∗ boundary (SparseCore.T c) ∗ iprop(StableHlo.held (SparseCore.T c) (Pipeline.ucRefs τ sig) (V c) ∗ settled (F := F) c)
        ∗ levAts (K (F := F)).L (K (F := F)).lev ∗ callGhost (F := F) c) : sProp 𝕄) := by
  iintro ⟨Hb, Hh, HO, HL, HG⟩
  isplitr [Hb Hh HO HL HG]
  · rw [wp_ret]
    iintro H
    imodintro
    iexact H
  isplitl [Hb]; · iexact Hb
  isplitl [Hh HO]
  · isplitl [Hh]; · iexact Hh
    iexact HO
  isplitl [HL]; · iexact HL
  iexact HG

/-- The call run, as the kernel's own program makes it. -/
theorem wp_dense [∀ e, Nonempty (Elt F e)] (c : Dev nD) :
    (iprop(boundary (SparseCore.T c) ∗ StableHlo.held (SparseCore.T c) (Pipeline.ucRefs τ sig) (V c) ∗ settled (F := F) c
        ∗ levAts (K (F := F)).L (K (F := F)).lev ∗ callGhost (F := F) c) : sProp 𝕄)
      ⊢ wp frame (wpE (D (F := F)) 𝒱 (SparseCore.T c) none) Set.univ (Prog.lift (.customCall (Pipeline.entry 0) ()))
          fun _ => denseDone V c :=
  BI.Entails.trans (dense_regroup V c) (wp_dense_raw V c)

end Cert.Proof
-- ==== Proof.Host.lean ====
module

public import proofs.«01_k».proof.Proof.DenseCall
public import proofs.«01_k».proof.Proof.Launch
public import Idealize.ShloMosaic.Lib.StableHlo.RunRead

@[expose] public section

/-! # The host's part of the program

The host reshapes the index row, starts the gather, prepares the dense layer's operands (the padded cell table, the
narrowed weights, the reshaped rows and columns) and starts the dense layer.  Here are those operations as a line, and
the contents of the device's buffers after each of the four stretches. -/

noncomputable section

namespace Cert.Proof

open Cert.KernelIdeal Cert.KernelIdeal.Gen

open Idealize.ShloMosaic
open Idealize.ShloMosaic.TcCoe
open Idealize.ShloMosaic.SparseCore (V)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MM F

/-- The reshaping of the index row. -/
abbrev rowOp : HloOp τ sig (Elt F) :=
  StableHlo.reshape main_arg0 main_v0 (rfl : (.i32 : EltTy) = .i32) shapeCasts_S16384_S1x16384

/-- The operations between the two calls. -/
abbrev prepOps : List (HloOp τ sig (Elt F)) :=
  [StableHlo.nullary main_cst (constant S_ .bf16 0x0000#16),
    StableHlo.unary main_cst main_v2 (broadcastInDim S128x128 ![] bcast_S_S128x128 : (⟨S_, .bf16⟩ : BufTy).Contents (Elt F) → (⟨S128x128, .bf16⟩ : BufTy).Contents (Elt F)),
    StableHlo.unary main_arg4 main_v3 ((truncf .bf16 · bitsLt_bf16_f32) : (⟨S100x128, .f32⟩ : BufTy).Contents (Elt F) → (⟨S100x128, .bf16⟩ : BufTy).Contents (Elt F)),
    StableHlo.nullary main_c (constantI S_ 32 0#32),
    StableHlo.unary main_c main_v4 (broadcastInDim S1 ![] bcast_S_S1 : (⟨S_, .i32⟩ : BufTy).Contents (Elt F) → (⟨S1, .i32⟩ : BufTy).Contents (Elt F)),
    StableHlo.ternary main_v2 main_v4 main_v3 main_v5 ((fun x i u => Host.scatter scatter_S128x128_S1_S100x128_01_n_0_0 (fun _ b => b) x i u) : (⟨S128x128, .bf16⟩ : BufTy).Contents (Elt F) → (⟨S1, .i32⟩ : BufTy).Contents (Elt F) → (⟨S100x128, .bf16⟩ : BufTy).Contents (Elt F) → (⟨S128x128, .bf16⟩ : BufTy).Contents (Elt F)),
    StableHlo.unary main_arg7 main_v6 ((truncf .bf16 · bitsLt_bf16_f32) : (⟨S128x128, .f32⟩ : BufTy).Contents (Elt F) → (⟨S128x128, .bf16⟩ : BufTy).Contents (Elt F)),
    StableHlo.unary main_arg9 main_v7 ((truncf .bf16 · bitsLt_bf16_f32) : (⟨S384x512, .f32⟩ : BufTy).Contents (Elt F) → (⟨S384x512, .bf16⟩ : BufTy).Contents (Elt F)),
    StableHlo.unary main_arg11 main_v8 ((truncf .bf16 · bitsLt_bf16_f32) : (⟨S512x2000, .f32⟩ : BufTy).Contents (Elt F) → (⟨S512x2000, .bf16⟩ : BufTy).Contents (Elt F)),
    StableHlo.reshape main_arg1 main_v9 (rfl : (.f32 : EltTy) = .f32) shapeCasts_S16384_S16384x1,
    StableHlo.reshape main_arg2 main_v10 (rfl : (.i32 : EltTy) = .i32) shapeCasts_S16384_S16384x1,
    StableHlo.reshape main_arg6 main_v11 (rfl : (.f32 : EltTy) = .f32) shapeCasts_S128_S1x128,
    StableHlo.reshape main_arg8 main_v12 (rfl : (.f32 : EltTy) = .f32) shapeCasts_S128_S1x128,
    StableHlo.reshape main_arg10 main_v13 (rfl : (.f32 : EltTy) = .f32) shapeCasts_S512_S1x512,
    StableHlo.reshape main_arg12 main_v14 (rfl : (.f32 : EltTy) = .f32) shapeCasts_S2000_S1x2000]

/-- The program, as its first operation, the gather call, the line between and the dense call. -/
theorem main_eq (d : Dev nD) :
    main (F := F) d = ((hlo rfl rowOp fun _ => .ret (⟨⟩ : PUnit)) >>= fun _ => (K (F := F)).run d 0 >>= fun _ =>
      StableHlo.seq prepOps >>= fun _ => Prog.lift (.customCall (SparseCore.inner (Pipeline.entry 0)) ()) >>= fun _ => pure ⟨⟩) := by
  simp only [main, prepOps, StableHlo.seq, bind_assoc, pure_bind]

section Contents
variable (m : (ℓ : Loc nD τ sig) → Buf (Elt F) ℓ)

/-- The buffers once the index row is reshaped. -/
def atGather (d : Dev nD) : Valuation τ sig (Elt F) := rowOp.result fun b => m (d, b)

/-- The table, the index row and the rows as the gather finds them. -/
abbrev tabOf (d : Dev nD) : S1000000x128.Idx → Elt F .f32 := atGather m d (Proc.devRef .tc main_arg3)
abbrev rowOf (d : Dev nD) : S1x16384.Idx → Elt F .i32 := atGather m d (Proc.devRef .tc main_v0)
abbrev oldOf (d : Dev nD) : S16384x128.Idx → Elt F .f32 := atGather m d (Proc.devRef .tc main_v1)

/-- The buffers once the rows are gathered. -/
def pastGather (d : Dev nD) : Valuation τ sig (Elt F) :=
  Function.update (atGather m d) (Proc.devRef .tc main_v1) (gOut (tabOf m d) (rowOf m d))

/-- The buffers as the dense layer finds them. -/
def atDense (d : Dev nD) : Valuation τ sig (Elt F) := StableHlo.after prepOps (pastGather m d)

/-- The buffers when the program ends. -/
abbrev atEnd (d : Dev nD) : Valuation τ sig (Elt F) := afterDense (atDense m) d

/-- The three buffers of the gather. -/
def gBufs : Finset (DevRef τ sig) :=
  {Proc.devRef .tc main_arg3, Proc.devRef .tc main_v0, Proc.devRef .tc main_v1}

theorem gBufs_sub : gBufs ⊆ Pipeline.ucRefs τ sig := by
  decide

theorem held_gBufs (d : Dev nD) (W : Valuation τ sig (Elt F)) :
    (StableHlo.held (SparseCore.T d) gBufs W : sProp 𝕄)
      = iprop((tLoc d ↦{fullShare} W (Proc.devRef .tc main_arg3)) ∗ (iLoc d ↦{fullShare} W (Proc.devRef .tc main_v0))
          ∗ oLoc d ↦{fullShare} W (Proc.devRef .tc main_v1)) := by
  unfold StableHlo.held gBufs
  rw [SparseCore.bigSep_insert' (by decide), SparseCore.bigSep_insert' (by decide), bigSep_singleton]

/-- Before the gather: its three buffers, and the rest. -/
theorem take_gBufs (d : Dev nD) :
    (StableHlo.held (SparseCore.T d) (Pipeline.ucRefs τ sig) (atGather m d) : sProp 𝕄)
      = iprop(iprop((tLoc d ↦{fullShare} tabOf m d) ∗ (iLoc d ↦{fullShare} rowOf m d) ∗ oLoc d ↦{fullShare} oldOf m d)
          ∗ StableHlo.held (SparseCore.T d) (Pipeline.ucRefs τ sig \ gBufs) (atGather m d)) := by
  rw [StableHlo.held_sub_split (SparseCore.T d) gBufs_sub, held_gBufs]

/-- After it: they are put back, the rows now gathered. -/
theorem put_gBufs (d : Dev nD) :
    (StableHlo.held (SparseCore.T d) (Pipeline.ucRefs τ sig) (pastGather m d) : sProp 𝕄)
      = iprop(iprop((tLoc d ↦{fullShare} tabOf m d) ∗ (iLoc d ↦{fullShare} rowOf m d) ∗ oLoc d ↦{fullShare} gOut (tabOf m d) (rowOf m d))
          ∗ StableHlo.held (SparseCore.T d) (Pipeline.ucRefs τ sig \ gBufs) (atGather m d)) := by
  rw [StableHlo.held_sub_split (SparseCore.T d) gBufs_sub, held_gBufs]
  have e : (StableHlo.held (SparseCore.T d) (Pipeline.ucRefs τ sig \ gBufs) (pastGather m d) : sProp 𝕄)
      = StableHlo.held (SparseCore.T d) (Pipeline.ucRefs τ sig \ gBufs) (atGather m d) := by
    refine StableHlo.held_congr _ fun b hb => ?_
    unfold pastGather
    rw [Function.update_of_ne]
    rintro rfl
    exact (Finset.mem_sdiff.mp hb).2 (by decide)
  rw [e]
  unfold pastGather
  rw [Function.update_of_ne (by decide), Function.update_of_ne (by decide), Function.update_self]

end Contents

theorem prep_sub : ∀ op ∈ prepOps (F := F), op.bufs ⊆ Pipeline.ucRefs τ sig := by
  intro op h
  refine Pipeline.sub_ucRefs op ?_
  simp only [prepOps, List.mem_cons, List.not_mem_nil, or_false] at h
  rcases h with rfl | rfl | rfl | rfl | rfl | rfl | rfl | rfl | rfl | rfl | rfl | rfl | rfl | rfl | rfl <;> simp

theorem prep_fresh : ∀ op ∈ prepOps (F := F), op.fresh = ∅ := by
  intro op h
  simp only [prepOps, List.mem_cons, List.not_mem_nil, or_false] at h
  rcases h with rfl | rfl | rfl | rfl | rfl | rfl | rfl | rfl | rfl | rfl | rfl | rfl | rfl | rfl | rfl <;> rfl

theorem row_sub : (rowOp (F := F)).bufs ⊆ Pipeline.ucRefs τ sig := Pipeline.sub_ucRefs _ (by simp)

end Cert.Proof
-- ==== Proof.Fund.lean ====
module

public import proofs.«01_k».proof.Proof.Host

@[expose] public section

/-! # The launch's ghost state

One launch element funds the handshakes of the two processors, the rounds of the dense layer and the write mode of the
gathered rows; here it is taken apart. -/

noncomputable section

namespace Cert.Proof

open Cert.KernelIdeal Cert.KernelIdeal.Gen

open Idealize.ShloMosaic
open Idealize.ShloMosaic.TcCoe
open Idealize.ShloMosaic.SparseCore (V)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MM F

/-! ## The launch's ghost state -/

/-- The dense layer's rounds at the launch. -/
abbrev denseRounds : UP :=
  initOf (Pipeline.cells (Pipeline.pin (pcfgs (F := F)) adm) cellOf_inj) (Pipeline.launchToks (Pipeline.pin (pcfgs (F := F)) adm) cellOf_inj)

/-- The launch element: the handshakes', the dense layer's, the write mode's. -/
def u₀ : UU F := (initOf (K (F := F)).hsCells (K (F := F)).hsToks, (denseRounds (F := F), (wm₀ nD τ sig (Elt F), 1)))

/-- The write mode's invariant, at some name. -/
abbrev wmAny : sProp 𝕄 := iprop(∃ ιwm, wmInv (Ix := HIx 1) (Lvl := ℕ) wmE ιwm)

/-- What the launch hands the host's thread beside the handshakes. -/
abbrev Gd (d : Dev nD) : sProp 𝕄 := iprop(wmAny (F := F) ∗ callGhost (F := F) d)

theorem wm_own (w : UWm F) : (BI.own (((Emb.inl : Emb (UWm F) (UWm F × Counters)).trans (Emb.inr.trans (embR : Emb (UP × (UWm F × Counters)) (MM F)))) w) : sProp 𝕄) = ownU (wmE w) := rfl

theorem own_parts : (ownU (u₀ (F := F)) : sProp 𝕄)
    ⊢ (iprop(BI.own (EH (initOf (K (F := F)).hsCells (K (F := F)).hsToks)) ∗ BI.own (EP (denseRounds (F := F)))
        ∗ ownU (wmE (wm₀ nD τ sig (Elt F)))) : sProp 𝕄) := by
  unfold u₀
  iintro Hu
  ihave H := (ownU_pair (initOf (K (F := F)).hsCells (K (F := F)).hsToks) (denseRounds (F := F), (wm₀ nD τ sig (Elt F), (1 : Counters)))) $$ Hu
  icases H with ⟨HH, Hr⟩
  ihave H := (own_pair_emb embR (denseRounds (F := F)) (wm₀ nD τ sig (Elt F), (1 : Counters))) $$ Hr
  icases H with ⟨HP, Hr⟩
  ihave H := (own_pair_emb (Emb.inr.trans embR) (wm₀ nD τ sig (Elt F)) (1 : Counters)) $$ Hr
  icases H with ⟨HW, -⟩
  isplitl [HH]; · iexact HH
  isplitl [HP]; · iexact HP
  iapply (Entails.of_eq (wm_own (wm₀ nD τ sig (Elt F)))); iexact HW

theorem wm_start (m : MemSt nD τ sig (Elt F)) :
    (ownU (wmE (wm₀ nD τ sig (Elt F))) : sProp 𝕄) ⊢ (iprop(|={Set.univ}=> wmAny (F := F)) : sProp 𝕄) := by
  have h := wmInv_alloc (Ix := HIx 1) (Name := ℕ) (Lvl := ℕ) (emb := wmE) m ∅ (E := Set.univ)
  iintro H
  imod h $$ H with ⟨%ιwm, %hne, Hi⟩
  imodintro
  iexists ιwm; iexact Hi

theorem fund_dense : (BI.own (EP (denseRounds (F := F))) : sProp 𝕄)
    ⊢ (iprop(|={Set.univ}=> (bigSep Finset.univ fun d : Dev nD => callGhost (F := F) d)) : sProp 𝕄) := by
  have h := Pipeline.fund_ghost (Ix := HIx 1) (Name := ℕ) (U := UU F) (Lvl := ℕ) (Pipeline.pin (pcfgs (F := F)) adm) EP cellOf_inj
  have e : ∀ Φ : Dev nD → Fin 1 → sProp 𝕄, (bigSep Finset.univ fun c : Dev nD => bigSep Finset.univ fun p => Φ c p) = bigSep Finset.univ fun c => Φ c 0 :=
    fun Φ => bigSep_congr fun c _ => bigSep_univ_of_subsingleton (0 : Fin 1)
  rw [e, e, ← bigSep_sep'] at h
  iintro H
  imod h $$ H with HG
  imodintro
  iexact HG

end Cert.Proof
-- ==== Proof.Run.lean ====
module

public import proofs.«01_k».proof.Proof.Fund

@[expose] public section

/-! # The program's run

The host's thread from its first operation to its last, and the run of the whole program with the contents of every
buffer of the device named at its end. -/

noncomputable section

namespace Cert.Proof

open Cert.KernelIdeal Cert.KernelIdeal.Gen

open Idealize.ShloMosaic
open Idealize.ShloMosaic.TcCoe
open Idealize.ShloMosaic.SparseCore (V)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MM F

section Run
variable (m : (ℓ : Loc nD τ sig) → Buf (Elt F) ℓ)

/-- What the handshakes carry, at a launch memory. -/
abbrev PM : (K (F := F)).Pay (nD := nD) (Val := Elt F) (Name := ℕ) (U := UU F) := P (tabOf m) (rowOf m) (oldOf m)

/-- The write mode's invariant, for every thread and call. -/
theorem deal_wm : (wmAny (F := F) : sProp 𝕄)
    ⊢ (iprop((bigSep Finset.univ fun _ : Dev nD => wmAny (F := F))
        ∗ bigSep Finset.univ fun thr : Thread nD τ => bigSep Finset.univ fun q : Fin 1 => (PM m).x q thr) : sProp 𝕄) := by
  have e : (bigSep Finset.univ fun thr : Thread nD τ => bigSep Finset.univ fun q : Fin 1 => (PM m).x q thr)
      = (bigSep Finset.univ fun _ : Thread nD τ => wmAny (F := F) : sProp 𝕄) :=
    bigSep_congr fun _ _ => bigSep_univ_of_subsingleton (0 : Fin 1)
  rw [e]
  have h1 : (wmAny (F := F) : sProp 𝕄) ⊢ bigSep Finset.univ fun _ : Dev nD => wmAny (F := F) :=
    bigSep_intro_persistent fun _ _ => BI.Entails.refl _
  have h2 : (wmAny (F := F) : sProp 𝕄) ⊢ bigSep Finset.univ fun _ : Thread nD τ => wmAny (F := F) :=
    bigSep_intro_persistent fun _ _ => BI.Entails.refl _
  iintro #H
  isplitl
  · iapply h1; iexact H
  iapply h2; iexact H

theorem hu₀ (ρ : Dev nD → PrngReg) : (ownU (u₀ (F := F)) : sProp 𝕄)
    ⊢ (iprop(|={Set.univ}=> (BI.own (EH (initOf (K (F := F)).hsCells (K (F := F)).hsToks)) ∗ (bigSep Finset.univ fun d : Dev nD => Gd (F := F) d)
        ∗ bigSep Finset.univ fun thr : Thread nD τ => bigSep Finset.univ fun q : Fin 1 => (PM m).x q thr)) : sProp 𝕄) := by
  have hm := wm_start (F := F) ⟨m, fun _ => 0, ρ⟩
  rw [bigSep_sep']
  iintro Hu
  ihave H := own_parts $$ Hu
  icases H with ⟨HH, HP, HW⟩
  imod hm $$ HW with HW
  imod fund_dense $$ HP with HP
  ihave H := (deal_wm m) $$ HW
  icases H with ⟨HW, Hx⟩
  imodintro
  isplitl [HH]; · iexact HH
  isplitl [HW HP]
  · isplitl [HW]; · iexact HW
    iexact HP
  iexact Hx

/-! ## The host's thread -/

/-- What the host's thread keeps at its end: every buffer of the device, at its final contents. -/
abbrev FIN (d : Dev nD) : sProp 𝕄 := StableHlo.held (SparseCore.T d) (Pipeline.ucRefs τ sig) (atEnd m d)

theorem st_eq (d : Dev nD) : (bigSep Finset.univ fun c : Fin ((K (F := F)).nCore 0) => (PM m).st 0 d c)
    = (iprop(stOf d (tabOf m d) (rowOf m d) (oldOf m d) 0 ∗ stOf d (tabOf m d) (rowOf m d) (oldOf m d) 1) : sProp 𝕄) :=
  bigSep_fin_two _
theorem dn_eq (d : Dev nD) : (bigSep Finset.univ fun c : Fin ((K (F := F)).nCore 0) => (PM m).dn 0 d c)
    = (iprop(dnOf d (tabOf m d) (rowOf m d) (oldOf m d) 0 ∗ dnOf d (tabOf m d) (rowOf m d) (oldOf m d) 1) : sProp 𝕄) :=
  bigSep_fin_two _

theorem ownership_in (d : Dev nD) :
    (StableHlo.held (SparseCore.T d) (Pipeline.ucRefs τ sig) ((rowOp (F := F)).result fun b => m (d, b)) : sProp 𝕄)
      ⊢ (iprop(iprop((tLoc d ↦{fullShare} tabOf m d) ∗ (iLoc d ↦{fullShare} rowOf m d) ∗ oLoc d ↦{fullShare} oldOf m d)
          ∗ StableHlo.held (SparseCore.T d) (Pipeline.ucRefs τ sig \ gBufs) (atGather m d)) : sProp 𝕄) :=
  Entails.of_eq (take_gBufs m d)

theorem ownership_out (d : Dev nD) :
    (iprop(iprop((tLoc d ↦{fullShare} tabOf m d) ∗ (iLoc d ↦{fullShare} rowOf m d) ∗ oLoc d ↦{fullShare} gOut (tabOf m d) (rowOf m d))
          ∗ StableHlo.held (SparseCore.T d) (Pipeline.ucRefs τ sig \ gBufs) (atGather m d)) : sProp 𝕄)
      ⊢ (StableHlo.held (SparseCore.T d) (Pipeline.ucRefs τ sig) (pastGather m d) : sProp 𝕄) :=
  Entails.of_eq (put_gBufs m d).symm

/-- What the host's thread holds when the gather call is done, without what it owes. -/
abbrev positions (d : Dev nD) : sProp 𝕄 :=
  iprop(atPos EH ((K (F := F)).doneCell d) 1 ∅ 0 ∗ reached EH ((K (F := F)).doneCell d) 1
    ∗ (bigSep Finset.univ fun c : Fin τ.nSC => reached EH ((K (F := F)).startCell d c) ((K (F := F)).sRank c 1))
    ∗ bigSep (SparseCore.Cfg.callsFrom 1) fun q => bigSep Finset.univ fun c : Fin ((K (F := F)).nCore q) =>
        iprop(dutyTok EH ((K (F := F)).startCell d ((K (F := F)).core q c)) ((K (F := F)).sRank ((K (F := F)).core q c) q.val) 0
          ∗ cred (tallyAt ((K (F := F)).doneCell d) (some (SparseCore.Cfg.Blocks.last q)) 1)))

theorem tcSt_one (d : Dev nD) : ((K (F := F)).tcSt EH d 1 : sProp 𝕄) = iprop(settled (F := F) d ∗ positions d) := by
  unfold SparseCore.Cfg.tcSt settled
  rw [(K (F := F)).Otc_end d (le_refl 1)]

set_option backward.isDefEq.respectTransparency.types false in
/-- The dense call, as the whole program makes it. -/
theorem wp_dense_lifted [∀ e, Nonempty (Elt F e)] (W : Dev nD → Valuation τ sig (Elt F)) (d : Dev nD) :
    (iprop(boundary (SparseCore.T d) ∗ StableHlo.held (SparseCore.T d) (Pipeline.ucRefs τ sig) (W d) ∗ settled (F := F) d
        ∗ levAts (K (F := F)).L (K (F := F)).lev ∗ callGhost (F := F) d) : sProp 𝕄)
      ⊢ wp frame (wpE ((K (F := F)).defs (D (F := F))) 𝒱 (SparseCore.T d) none) Set.univ
          (Prog.lift (.customCall (SparseCore.inner (Pipeline.entry 0)) ())) fun _ => denseDone W d :=
  (wp_dense W d).trans ((K (F := F)).wp_liftProg (D (F := F)) 𝒱 (SparseCore.T d) Set.univ none
    (Prog.lift (.customCall (Pipeline.entry 0) ())) fun _ => denseDone W d)

/-- What the host's thread has past the gather call. -/
abbrev pastCall (d : Dev nD) : sProp 𝕄 :=
  iprop(boundary (SparseCore.T d) ∗ StableHlo.held (SparseCore.T d) (Pipeline.ucRefs τ sig) (pastGather m d) ∗ (K (F := F)).tcSt EH d 1
    ∗ levAts (K (F := F)).L (K (F := F)).lev ∗ callGhost (F := F) d ∗ (K (F := F)).tcSems0 d)

/-- What it has at its end. -/
abbrev hostEnd (d : Dev nD) : sProp 𝕄 :=
  iprop((K (F := F)).tcSt EH d 1 ∗ FIN m d ∗ (K (F := F)).tcEnd d)

theorem finish (d : Dev nD) :
    (iprop(denseDone (atDense m) d ∗ positions (F := F) d ∗ (K (F := F)).tcSems0 d) : sProp 𝕄) ⊢ hostEnd m d := by
  unfold hostEnd SparseCore.Cfg.tcEnd
  rw [tcSt_one]
  iintro ⟨⟨Hb, Hh, HO⟩, Hp, Hs⟩
  isplitl [HO Hp]
  · isplitl [HO]; · iexact HO
    iexact Hp
  isplitl [Hh]; · iexact Hh
  isplitl [Hb] <;> iassumption

set_option backward.isDefEq.respectTransparency.types false in
theorem wp_prep (d : Dev nD) {β : Type} (k : Prog (TpuEff nD τ sig (Elt F) (SparseCore.Sig (ΛP (F := F)) 1) .tc) β) (Q : β → sProp 𝕄) :
    (iprop(boundary (SparseCore.T d) ∗ StableHlo.held (SparseCore.T d) (Pipeline.ucRefs τ sig) (pastGather m d)) : sProp 𝕄)
      ⊢ (iprop(((boundary (SparseCore.T d) ∗ StableHlo.held (SparseCore.T d) (Pipeline.ucRefs τ sig) (atDense m d))
            -∗ wp frame (wpE ((K (F := F)).defs (D (F := F))) 𝒱 (SparseCore.T d) none) Set.univ k Q)
          -∗ wp frame (wpE ((K (F := F)).defs (D (F := F))) 𝒱 (SparseCore.T d) none) Set.univ (StableHlo.seq prepOps >>= fun _ => k) Q) : sProp 𝕄) :=
  StableHlo.wp_seq 𝒱 none Set.univ d (Pipeline.ucRefs τ sig) (fun _ => k) prepOps prep_sub prep_fresh (pastGather m d)

theorem wp_past [∀ e, Nonempty (Elt F e)] (d : Dev nD) :
    (pastCall m d : sProp 𝕄)
      ⊢ wp frame (wpE ((K (F := F)).defs (D (F := F))) 𝒱 (SparseCore.T d) none) Set.univ
          (StableHlo.seq prepOps >>= fun _ => Prog.lift (.customCall (SparseCore.inner (Pipeline.entry 0)) ()) >>= fun _ => pure (⟨⟩ : PUnit))
          fun _ => hostEnd m d := by
  unfold pastCall
  rw [tcSt_one]
  iintro ⟨Hb, Hh, ⟨HO, Hp⟩, HL, HG, Hs⟩
  iapply (wp_prep m d) $$ [Hb Hh]
  · isplitl [Hb] <;> iassumption
  iintro ⟨Hb, Hh⟩
  rw [wp_bind]
  iapply (wp_wand_r frame)
  isplitl [Hb Hh HO HL HG]
  · iapply (wp_dense_lifted (atDense m) d)
    isplitl [Hb]; · iexact Hb
    isplitl [Hh]; · iexact Hh
    isplitl [HO]; · iexact HO
    isplitl [HL]; · iexact HL
    iexact HG
  iintro %_ Hd
  rw [wp_pure]
  imodintro
  iapply (finish m d)
  isplitl [Hd]; · iexact Hd
  isplitl [Hp]; · iexact Hp
  iexact Hs

/-- The gather call done: the rows are put back among the host's buffers. -/
theorem settle_call (d : Dev nD) :
    (iprop(wmAny (F := F) ∗ (bigSep Finset.univ fun c : Fin ((K (F := F)).nCore 0) => (PM m).dn 0 d c)
        ∗ StableHlo.held (SparseCore.T d) (Pipeline.ucRefs τ sig \ gBufs) (atGather m d)) : sProp 𝕄)
      ⊢ (iprop(|={Set.univ}=> StableHlo.held (SparseCore.T d) (Pipeline.ucRefs τ sig) (pastGather m d)) : sProp 𝕄) := by
  rw [dn_eq]
  iintro ⟨⟨%ιwm, Hwm⟩, ⟨H0, H1⟩, Hrest⟩
  imod (ends d (tabOf m d) (rowOf m d) (oldOf m d) (ιwm := ιwm)) $$ [Hwm H0 H1] with H
  · isplitl [Hwm]; · iexact Hwm
    isplitl [H0] <;> iassumption
  imodintro
  iapply (ownership_out m d)
  isplitl [H] <;> iassumption

/-- Before it: the three buffers go out, dealt to the two SparseCores. -/
theorem start_call (d : Dev nD) :
    (iprop(wmAny (F := F) ∗ StableHlo.held (SparseCore.T d) (Pipeline.ucRefs τ sig) ((rowOp (F := F)).result fun b => m (d, b))) : sProp 𝕄)
      ⊢ (iprop(|={Set.univ}=> ((bigSep Finset.univ fun c : Fin ((K (F := F)).nCore 0) => (PM m).st 0 d c)
        ∗ StableHlo.held (SparseCore.T d) (Pipeline.ucRefs τ sig \ gBufs) (atGather m d))) : sProp 𝕄) := by
  rw [st_eq]
  iintro ⟨⟨%ιwm, Hwm⟩, Hh⟩
  ihave H := (ownership_in m d) $$ Hh
  icases H with ⟨Hg, Hrest⟩
  imod (starts d (tabOf m d) (rowOf m d) (oldOf m d) (ιwm := ιwm)) $$ [Hwm Hg] with H
  · isplitl [Hwm] <;> iassumption
  imodintro
  isplitl [H] <;> iassumption

/-- The host's thread, from the launch's buffers to its end. -/
theorem hmain [∀ e, Nonempty (Elt F e)] (ρ : Dev nD → PrngReg) (κ : GSem nD τ sig → ℕ) (d : Dev nD) :
    (iprop((K (F := F)).ctx EH (PM m) κ ∗ (K (F := F)).tcSt EH d 0 ∗ (K (F := F)).tcRes m ρ d ∗ Gd (F := F) d) : sProp 𝕄)
      ⊢ wp frame (wpE ((K (F := F)).defs (D (F := F))) 𝒱 (SparseCore.T d) none) Set.univ (main d) fun _ => hostEnd m d := by
  unfold SparseCore.Cfg.tcRes
  have hub : (unscopedBufs d (fun b => m ((SparseCore.T d).loc b)) : sProp 𝕄)
      = StableHlo.held (SparseCore.T d) (Pipeline.ucRefs τ sig) (fun b => m (d, b)) :=
    Pipeline.unscopedBufs_held (Ix := HIx 1) (Name := ℕ) (U := UU F) (Lvl := ℕ) d fun b => m (d, b)
  rw [hub, main_eq]
  rw [wp_bind]
  iintro ⟨#Hctx, Hst, ⟨Hb, Hh, Hs, -⟩, ⟨#Hwm, HG⟩⟩
  iapply (StableHlo.wp_hlo_within 𝒱 (SparseCore.T d) none Set.univ row_sub) $$ [Hb Hh]
  · isplitl [Hb] <;> iassumption
  iintro ⟨Hb, Hh⟩
  rw [wp_ret]
  imod (start_call m d) $$ [Hh] with ⟨Hgo, Hrest⟩
  · isplitr; · iexact Hwm
    iexact Hh
  imodintro
  rw [wp_bind]
  iapply ((K (F := F)).wp_run (D (F := F)) 𝒱 (EH := EH) (P := PM m) κ d 0) $$ [Hst Hgo Hb Hrest Hs HG]
  isplitr; · iexact Hctx
  isplitl [Hst]; · iexact Hst
  isplitl [Hgo]; · iexact Hgo
  iintro ⟨Hst, Hdn⟩
  imod (settle_call m d) $$ [Hdn Hrest] with Hh
  · isplitr; · iexact Hwm
    isplitl [Hdn] <;> iassumption
  iapply (wp_past m d)
  isplitl [Hb]; · iexact Hb
  isplitl [Hh]; · iexact Hh
  isplitl [Hst]; · iexact Hst
  isplitr; · iapply (SparseCore.Cfg.ctx_levAts κ); iexact Hctx
  isplitl [HG] <;> iassumption

/-- The device's unscoped buffers are as the final contents say. -/
def endsAs (d : Dev nD) (s : Phys nD τ sig (Elt F)) : Prop := ∀ b ∈ Pipeline.ucRefs τ sig, s.mem.mem (d, b) = atEnd m d b

theorem held_reads (d : Dev nD) (s : Phys nD τ sig (Elt F)) (S : Finset (DevRef τ sig)) (W : Valuation τ sig (Elt F)) :
    (iprop(StableHlo.held (SparseCore.T d) S W ∗ SI s) : sProp 𝕄) ⊢ (⌜∀ b ∈ S, s.mem.mem (d, b) = W b⌝ : sProp 𝕄) := by
  induction S using Finset.induction_on with
  | empty => exact BI.Entails.trans (show _ ⊢ (BI.emp : sProp 𝕄) by iintro -; iempintro) (pure_intro fun _ h => absurd h (Finset.notMem_empty _))
  | insert b S hb ih =>
    unfold StableHlo.held at ih ⊢
    rw [SparseCore.bigSep_insert' hb]
    iintro ⟨⟨Hx, Hr⟩, HSI⟩
    ihave H := (persistent_entails_right (SI_pointsTo_agree (st := s) (ℓ := (d, b)) (I := Finset.univ) (q := fullShare) (f := W b))) $$ [HSI Hx]
    · isplitl [HSI] <;> iassumption
    icases H with ⟨%h1, HSI, -⟩
    ihave H := ih $$ [Hr HSI]
    · isplitl [Hr] <;> iassumption
    icases H with %h2
    ipureintro
    intro x hx
    rcases Finset.mem_insert.mp hx with rfl | hx
    · exact funext fun i => h1 i (Finset.mem_univ i)
    · exact h2 x hx

/-- Every run from a launch memory whose indices are in range ends with every semaphore zero and every buffer of the
    device as the final contents say. -/
def RunEnds (r : PUnit × MemSt nD τ sig (Elt F)) : Prop :=
  (∀ d : Dev nD, ∀ b ∈ Pipeline.ucRefs τ sig, r.2.mem (d, b) = atEnd m d b) ∧ r.2.sem = fun _ => 0

theorem run_main [∀ e, Nonempty (Elt F e)] (ρ : Dev nD → PrngReg) (hr : ∀ d, InRange (rowOf m d)) :
    θ_run (Cert.KernelIdeal.defs (F := F)) (Cert.KernelIdeal.threads (F := F)) ⟨m, fun _ => 0, ρ⟩ (RunEnds m) :=
  SparseCore.Cfg.θ_run_sc_quiescent (K := K (F := F)) (D := D (F := F)) (𝒱 := 𝒱) (EH := EH) (P := PM m) (A := ∅) facts v₀
    (fun q hq => match q with | 0 => nomatch hq)
    (fun q _ => match q with | 0 => tileObl (tabOf m) (rowOf m) (oldOf m) facts hr)
    (fun q _ => match q with | 0 => SparseCore.Cfg.VecSplit.of_plain (vecSplit (tabOf m) (rowOf m) (oldOf m)))
    m ρ main (fun d => Gd (F := F) d) (FIN m) (u₀ (F := F)) (sep_elim_left.trans (hu₀ m ρ)) (hmain m ρ) (endsAs m)
    (fun d s => held_reads d s (Pipeline.ucRefs τ sig) (atEnd m d)) (RunEnds m) (fun _ h hz => ⟨h, hz⟩)

end Run

end Cert.Proof
-- ==== Proof.Frames.lean ====
module

public import proofs.«01_k».proof.Defs
public import proofs.«01_k».proof.Proof.Run
public import proofs.«01_k».proof.Proof.Gen.Kernel
public import proofs.«01_k».proof.Proof.Gen.KernelIdeal

@[expose] public section

/-! # The frames

What the precondition says of the launch memory, which of the program's buffers no step writes, and the two frames: the
run with its values dropped, at the two readings of the floats. -/

noncomputable section

namespace Cert.Proof

open Cert.KernelIdeal Cert.KernelIdeal.Gen

open Idealize.ShloMosaic
open Idealize.ShloMosaic.TcCoe
open Idealize.SL.Sem

variable {F : FTy → Type} [FloatOps F]

/-! ## The indices -/

/-- `(0 ≤ v) & (v < n)` as words compute it, for a bound below the words' sign bit: `v`'s value is below the bound. -/
theorem below_of_words {n : ℕ} (hn : n < 2147483648) (v : BitVec 32)
    (h : BitVec.sle 0#32 v = true ∧ BitVec.slt v (BitVec.ofNat 32 n) = true) : v.toNat < n := by
  have e : (BitVec.ofNat 32 n).toNat = n := by rw [BitVec.toNat_ofNat]; exact Nat.mod_eq_of_lt (by omega)
  obtain ⟨h0, h1⟩ := h
  rw [BitVec.sle_eq_decide, decide_eq_true_eq, BitVec.toInt_eq_toNat_cond, BitVec.toInt_eq_toNat_cond] at h0
  rw [BitVec.slt_eq_decide, decide_eq_true_eq, BitVec.toInt_eq_toNat_cond, BitVec.toInt_eq_toNat_cond, e] at h1
  have hz : (0#32).toNat = 0 := rfl
  rw [hz] at h0
  split_ifs at h0 h1 <;> omega

theorem and_one {p q : BitVec 1} (h : IntOp.andi p q = 1#1) : p = 1#1 ∧ q = 1#1 := by
  revert h
  have : ∀ p q : BitVec 1, IntOp.andi p q = 1#1 → p = 1#1 ∧ q = 1#1 := by decide
  exact this p q

theorem bool_one {p : Bool} (h : BitVec.ofBool p = 1#1) : p = true := by cases p <;> first | rfl | exact absurd h (by decide)

/-- The indices the precondition bounds: every word of the two index vectors is, as a number, below its table's height. -/
def IndicesOK (a0 a2 : S16384.Idx → BitVec 32) : Prop := ∀ j, (a0 j).toNat < 1000000 ∧ (a2 j).toNat < 100

theorem indices_of_pre [Cert.Pre_indices_in_range.Facts] {a0 : IVec S16384 32} {a1 : FVec F S16384 .f32} {a2 : IVec S16384 32} {a3 : FVec F S1000000x128 .f32} {a4 : FVec F S100x128 .f32}
    {a5 : FVec F S1x128 .f32} {a6 : FVec F S128 .f32} {a7 : FVec F S128x128 .f32} {a8 : FVec F S128 .f32} {a9 : FVec F S384x512 .f32} {a10 : FVec F S512 .f32}
    {a11 : FVec F S512x2000 .f32} {a12 : FVec F S2000 .f32}
    (h : Cert.Pre_indices_in_range.fn (F := F) a0 a1 a2 a3 a4 a5 a6 a7 a8 a9 a10 a11 a12 = fun _ => 1#1) : IndicesOK a0 a2 := by
  intro j
  have e := congrFun h j
  simp only [Cert.Pre_indices_in_range.fn, andi, cmpi, broadcastInDim, constantI] at e
  obtain ⟨e, e4⟩ := and_one e
  obtain ⟨e, e3⟩ := and_one e
  obtain ⟨e1, e2⟩ := and_one e
  exact ⟨below_of_words (by decide) (a0 j) ⟨bool_one e1, bool_one e2⟩, below_of_words (by decide) (a2 j) ⟨bool_one e3, bool_one e4⟩⟩

section Contents
variable (m : (ℓ : Loc nD τ sig) → Buf (Elt F) ℓ)

/-- The index row is the index vector, word for word. -/
theorem rowOf_eq (d : Dev nD) : rowOf m d = shapeCast S1x16384 (m ((SparseCore.T d).loc main_arg0)) shapeCasts_S16384_S1x16384 := by
  unfold rowOf atGather
  rw [StableHlo.reshape_result']
  rfl

theorem rows_inRange (h : ∀ d : Dev nD, IndicesOK (m ((SparseCore.T d).loc main_arg0)) (m ((SparseCore.T d).loc main_arg2))) :
    ∀ d, InRange (rowOf m d) := by
  intro d x
  rw [rowOf_eq]
  exact (h d _).1

/-! ## What no step writes -/

/-- The buffers the host's operations and the two calls write. -/
abbrev written : List (Ref sig .tc) :=
  [main_v0, main_v1, main_cst, main_v2, main_v3, main_c, main_v4, main_v5, main_v6, main_v7, main_v8, main_v9, main_v10,
    main_v11, main_v12, main_v13, main_v14, main_v15]

theorem atDense_other (d : Dev nD) {r : Ref sig .tc} (hr : r ∉ written) :
    atDense m d (Proc.devRef .tc r) = m ((SparseCore.T d).loc r) := by
  unfold atDense
  rw [StableHlo.after_unwritten [main_cst, main_v2, main_v3, main_c, main_v4, main_v5, main_v6, main_v7, main_v8, main_v9, main_v10,
    main_v11, main_v12, main_v13, main_v14] rfl (fun h => hr (by
      simp only [written, List.mem_cons, List.not_mem_nil, or_false] at h ⊢; tauto))]
  unfold pastGather
  rw [Function.update_of_ne (StableHlo.devRef_ne_of_ne fun h => hr (by rw [h]; simp [written]))]
  unfold atGather
  exact StableHlo.reshape_result_ne _ _ _ _ _ _ _ (fun h => hr (by rw [h]; simp [written]))

/-- Every window of the dense call but the last is an input. -/
theorem inputs : ∀ w : Fin 13, w ≠ 12 → (win1 w).isOut = false := by decide

/-- The dense call leaves its operands and everything outside it as they were. -/
theorem atEnd_other (d : Dev nD) {r : Ref sig .tc} (hr : r ∉ written) :
    atEnd m d (Proc.devRef .tc r) = m ((SparseCore.T d).loc r) := by
  rw [← atDense_other m d hr]
  unfold atEnd afterDense
  by_cases h : ∃ w, r = Pipeline.arrRef spec1 w
  · obtain ⟨w, rfl⟩ := h
    refine (Pipeline.afterRegion_arr (dat (atDense m) d) (atDense m d) launch1.win.arr_inj w).trans ?_
    exact (dat (atDense m) d).arrAt_in w (inputs w fun e => hr (by subst e; simp [written])) _
  · exact Pipeline.afterRegion_of_not_arr (dat (atDense m) d) (atDense m d) fun w hw => h ⟨w, hw⟩

/-- At the run's end a buffer no step writes holds what it held at the launch. -/
theorem kept {r : (Unit × MemSt nD τ sig (Elt F))} (h : RunEnds m r) (d : Dev nD) {b : Ref sig .tc} (hb : Proc.devRef .tc b ∈ Pipeline.ucRefs τ sig)
    (hr : b ∉ written) : r.2.mem (d, Proc.devRef .tc b) = m (d, Proc.devRef .tc b) :=
  (h.1 d _ hb).trans (atEnd_other m d hr)

/-- The program's arguments. -/
abbrev args : List (Ref sig .tc) :=
  [main_arg0, main_arg1, main_arg2, main_arg3, main_arg4, main_arg5, main_arg6, main_arg7, main_arg8, main_arg9, main_arg10, main_arg11, main_arg12]

theorem args_uc : ∀ b ∈ args, Proc.devRef .tc b ∈ Pipeline.ucRefs τ sig := by decide
theorem args_kept : ∀ b ∈ args, b ∉ written := by decide

/-- The arguments end as they were. -/
theorem args_end {r : (Unit × MemSt nD τ sig (Elt F))} (h : RunEnds m r) (d : Dev nD) :
    args.Forall fun b => r.2.mem (d, Proc.devRef .tc b) = m (d, Proc.devRef .tc b) :=
  List.forall_iff_forall_mem.2 fun b hb => kept m h d (args_uc b hb) (args_kept b hb)

end Contents

/-! ## The two frames -/

instance : Cert.Pre_indices_in_range.Facts := ⟨by decide⟩

/-- At either reading of the floats: the run leaves the arguments as they were and every counter at zero. -/
theorem frame_run [∀ e, Nonempty (Elt F e)] (m : (ℓ : Loc nD τ sig) → Buf (Elt F) ℓ) (ρ : Dev nD → PrngReg)
    (h : ∀ d, IndicesOK (m ((SparseCore.T d).loc main_arg0)) (m ((SparseCore.T d).loc main_arg2))) :
    θ_run (Cert.KernelIdeal.defs (F := F)) (Cert.KernelIdeal.threads (F := F)) ⟨m, fun _ => 0, ρ⟩
      (fun r => (∀ d, args.Forall fun b => r.2.mem (d, Proc.devRef .tc b) = m (d, Proc.devRef .tc b)) ∧ r.2.sem = fun _ => 0) :=
  (θ_run (Cert.KernelIdeal.defs (F := F)) _ _).mono (fun _ h => ⟨args_end m h, h.2⟩) (run_main m ρ (rows_inRange m h))

theorem frame_kernelIdeal : Cert.quiescent_KernelIdeal := fun m ρ hp =>
  frame_run (F := Ideal) m ρ fun d => indices_of_pre (hp d)

end Cert.Proof
-- ==== Proof.FrameBits.lean ====
module

public import proofs.«01_k».proof.Proof.Frames

@[expose] public section

/-! # The printed program's frame

The two programs are one text at two readings of the floats, so the frame is the run at the other reading. -/

noncomputable section

namespace Cert.Proof

open Idealize.ShloMosaic
open Idealize.SL.Sem

/-- The gather's body on a tile is the same in the two programs. -/
theorem tile_eq (c s) (a) : Cert.Kernel.defs₀ (F := Bits) (.scVector c s) 0 a = Cert.KernelIdeal.defs₀ (F := Bits) (.scVector c s) 0 a := rfl

/-- The dense body is the same in the two programs. -/
theorem dense_eq (a) : Cert.Kernel.defs₀ (F := Bits) .tc 1 a = Cert.KernelIdeal.defs₀ (F := Bits) .tc 1 a := rfl

/-- So are the bodies of every label, on every processor. -/
theorem bodies_eq : Cert.Kernel.defs₀ (F := Bits) = Cert.KernelIdeal.defs₀ (F := Bits) := by
  funext p ℓ a
  cases p with
  | tc => match ℓ, a with
    | 0, a => rfl
    | 1, a => exact dense_eq a
  | scScalar c => rfl
  | scVector c s => match ℓ, a with
    | 0, a => exact tile_eq c s a
    | 1, a => rfl

theorem defs_eq : Cert.Kernel.defs (F := Bits) = Cert.KernelIdeal.defs (F := Bits) :=
  congrArg (fun d => (Cert.KernelIdeal.sc (F := Bits)).defs (Pipeline.defs Cert.KernelIdeal.pcfgs d)) bodies_eq

theorem threads_eq : Cert.Kernel.threads (F := Bits) = Cert.KernelIdeal.threads (F := Bits) := rfl

/-- The printed program leaves its arguments as they were and every counter at zero. -/
theorem frame_kernel : Cert.quiescent_Kernel := by
  intro m ρ hp
  rw [defs_eq, threads_eq]
  exact frame_run (F := Bits) m ρ fun d => indices_of_pre (hp d)

end Cert.Proof
-- ==== Proof.Reference.lean ====
module

public import proofs.«01_k».proof.Defs
public import proofs.«01_k».proof.Proof.Gen.ReferenceIdeal.Run
public import Idealize.ShloMosaic.Lib.Quiescent

@[expose] public section

/-! # The reference's frames

The reference declares no semaphore, so its run's end has every counter at zero. -/

noncomputable section

namespace Cert.Proof

open Idealize.ShloMosaic
open Idealize.SL.Sem

theorem frame_reference : Cert.quiescent_ReferenceIdeal := fun m ρ _ =>
  (θ_run (Cert.ReferenceIdeal.defs (F := Ideal)) _ _).mono
    (fun r h => ⟨fun c => (h c).2, Idealize.ShloMosaic.sem_eq_zero_of_no_sems (by decide) r.2⟩) (Cert.ReferenceIdeal.Value.run (F := Ideal) m ρ)

/-- The same, with the precondition not used. -/
theorem frame_reference_pre [Cert.Pre_indices_in_range.Facts] : Cert.quiescent_ReferenceIdeal_pre_indices_in_range := fun m ρ _ =>
  frame_reference m ρ trivial

end Cert.Proof
-- ==== Proof.Formula.lean ====
module

public import proofs.«01_k».proof.Proof.Gen.KernelIdeal.Skeleton
public import Idealize.ShloMosaic.Lib.Pointwise
public import Idealize.ShloMosaic.Lib.Pipeline.ValueKit

@[expose] public section

set_option maxRecDepth 16384

/-! # One row of the result

The model's output for one row of the batch as a function of that row's gathered embedding, dose and cell embedding, and
what the dense body's four payloads are at an entry, over the extended reals. -/

noncomputable section

namespace Cert.Proof

open Cert.KernelIdeal Cert.KernelIdeal.Gen

open Idealize.ShloMosaic

/-- `x · σ(x)`. -/
def sil (x : EReal) : EReal := x * Ideal.logistic x

/-- The dose's embedding: a hidden layer of the dose, then a linear one. -/
def doseEmb (d : EReal) (w1 b1 : Fin 128 → EReal) (w2 : Fin 128 → Fin 128 → EReal) (b2 : Fin 128 → EReal) (j : Fin 128) : EReal :=
  (∑ k, sil (d * w1 k + b1 k) * w2 k j) + b2 j

/-- The wide layer before its activation, the three embeddings each against its own rows of the matrix. -/
def wide (g h c : Fin 128 → EReal) (W1 : Fin 384 → Fin 512 → EReal) (B1 : Fin 512 → EReal) (j : Fin 512) : EReal :=
  (∑ k : Fin 128, g k * W1 ⟨k, by omega⟩ j) + (∑ k : Fin 128, h k * W1 ⟨128 + k, by omega⟩ j)
    + (∑ k : Fin 128, c k * W1 ⟨256 + k, by omega⟩ j) + B1 j

/-- The last layer. -/
def outRow (z : Fin 512 → EReal) (W2 : Fin 512 → Fin 2000 → EReal) (B2 : Fin 2000 → EReal) (n : Fin 2000) : EReal :=
  (∑ j, sil (z j) * W2 j n) + B2 n

/-- The model's output at one row: the row's gathered embedding, its dose and its cell's embedding through the layers. -/
def modelRow (g : Fin 128 → EReal) (d : EReal) (c : Fin 128 → EReal) (w1 b1 : Fin 128 → EReal) (w2 : Fin 128 → Fin 128 → EReal)
    (b2 : Fin 128 → EReal) (W1 : Fin 384 → Fin 512 → EReal) (B1 : Fin 512 → EReal) (W2 : Fin 512 → Fin 2000 → EReal)
    (B2 : Fin 2000 → EReal) (n : Fin 2000) : EReal :=
  outRow (wide g (doseEmb d w1 b1 w2 b2) c W1 B1) W2 B2 n

theorem pay4_apply (d : S1024x1.Idx → EReal) (w1 b1 : S1x128.Idx → EReal) (w2 : S128x128.Idx → EReal) (b2 : S1x128.Idx → EReal)
    (r : Fin 1024) (j : Fin 128) :
    k1_pay4 (F := Ideal) d w1 b1 w2 b2 (ix2 r j)
      = doseEmb (d (ix2 r 0)) (fun k => w1 (ix2 0 k)) (fun k => b1 (ix2 0 k)) (fun k l => w2 (ix2 k l)) (fun k => b2 (ix2 0 k)) j := by
  pointwise [k1_pay4, doseEmb, sil]

theorem pay3_apply (g : S1024x128.Idx → EReal) (w : S128x512.Idx → EReal) (r : Fin 1024) (j : Fin 512) :
    k1_pay3 (F := Ideal) g w (ix2 r j) = ∑ k, g (ix2 r k) * w (ix2 k j) := by
  pointwise [k1_pay3]

/-- A one-bit comparison read as a float: one where it holds, zero elsewhere. -/
theorem bit_float (a b : BitVec 32) :
    FloatOps.sitofp (F := Ideal) FTy.f32 (BitVec.setWidth 32 (IntOp.cmpi CmpIPredicate.eq a b)) = if a = b then (1 : EReal) else 0 := by
  by_cases h : a = b
  · subst h
    rw [if_pos rfl, show IntOp.cmpi CmpIPredicate.eq a a = 1#1 by simp [IntOp.cmpi]]
    norm_num [FloatOps.sitofp]
  · rw [if_neg h, show IntOp.cmpi CmpIPredicate.eq a b = 0#1 by simp [IntOp.cmpi, beq_eq_false_iff_ne.2 h]]
    norm_num [FloatOps.sitofp]

/-- The product with the one-hot row picks the table's row that the index names. -/
theorem pay2_apply (ci : S1024x1.Idx → BitVec 32) (t : S128x128.Idx → EReal) (r : Fin 1024) (j : Fin 128)
    (i : Fin 128) (hi : (ci (ix2 r 0)).toNat = i) :
    k1_pay2 (F := Ideal) ci t (ix2 r j) = t (ix2 i j) := by
  pointwise [k1_pay2]
  rw [Finset.sum_eq_single i]
  · rw [bit_float, if_pos (by rw [← hi, BitVec.ofNat_toNat, BitVec.setWidth_eq]), one_mul]
  · intro x _ hx
    rw [bit_float, if_neg, zero_mul]
    intro e
    refine hx (Fin.ext ?_)
    rw [← hi, ← e, BitVec.toNat_ofNat, Nat.mod_eq_of_lt (by omega)]
  · intro h; exact absurd (Finset.mem_univ _) h

theorem pay1_apply (c : S1024x128.Idx → EReal) (s : S1024x512.Idx → EReal) (h : S1024x128.Idx → EReal) (u v : S128x512.Idx → EReal)
    (b : S1x512.Idx → EReal) (w2 : S512x2000.Idx → EReal) (b2 : S1x2000.Idx → EReal) (r : Fin 1024) (n : Fin 2000) :
    k1_pay1 (F := Ideal) c s h u v b w2 b2 (ix2 r n)
      = outRow (fun j => s (ix2 r j) + (∑ k, h (ix2 r k) * u (ix2 k j)) + (∑ k, c (ix2 r k) * v (ix2 k j)) + b (ix2 0 j))
          (fun j n => w2 (ix2 j n)) (fun n => b2 (ix2 0 n)) n := by
  pointwise [k1_pay1, outRow, sil]

end Cert.Proof
-- ==== Proof.Block.lean ====
module

public import proofs.«01_k».proof.Proof.Region
public import proofs.«01_k».proof.Proof.Formula
public import Idealize.ShloMosaic.Lib.Pipeline.ValueKit

@[expose] public section

set_option maxRecDepth 16384

/-! # The dense call's result, entry by entry

A block's entry is the model at that row of the block's operands, and the blocks together are the whole array. -/

noncomputable section

namespace Cert.Proof

open Cert.KernelIdeal Cert.KernelIdeal.Gen

open Idealize.ShloMosaic

/-- A load of rows from row `o` on of the wide matrix. -/
theorem rows_apply (X : S384x512.Idx → EReal) (o : Nat) (inb : ∀ a, (![o, 0] : Fin 2 → Nat) a + (![128, 512] : Fin 2 → Nat) a ≤ S384x512.size a)
    (ho : o + 128 ≤ 384) (k : Fin 128) (j : Fin 512) :
    View.ld (Val := Elt Ideal) (e' := .bf16) X (Rect.unit (s := S384x512) ![o, 0] ![128, 512] inb) (ix2 k j)
      = X (ix2 ⟨o + k, by omega⟩ j) := by
  rw [View.ld_apply]
  refine congrArg X (funext fun a => Fin.ext ?_)
  fin_cases a
  · exact congrArg (o + ·) (Nat.one_mul _)
  · exact (Nat.zero_add _).trans (Nat.one_mul _)

/-- An entry of the block the body stores. -/
theorem denseBlk_apply (X1 : S1024x128.Idx → EReal) (X2 : S1024x1.Idx → EReal) (X3 : S1024x1.Idx → BitVec 32)
    (X4 X5 : S1x128.Idx → EReal) (X6 : S128x128.Idx → EReal) (X7 : S1x128.Idx → EReal) (X8 : S384x512.Idx → EReal)
    (X9 : S1x512.Idx → EReal) (X10 : S512x2000.Idx → EReal) (X11 : S1x2000.Idx → EReal) (X12 : S128x128.Idx → EReal)
    (r : Fin 1024) (n : Fin 2000) (i : Fin 128) (hi : (X3 (ix2 r 0)).toNat = i) :
    denseBlk (F := Ideal) X1 X2 X3 X4 X5 X6 X7 X8 X9 X10 X11 X12 (ix2 r n)
      = modelRow (fun k => X1 (ix2 r k)) (X2 (ix2 r 0)) (fun k => X12 (ix2 i k)) (fun k => X4 (ix2 0 k)) (fun k => X5 (ix2 0 k))
          (fun k l => X6 (ix2 k l)) (fun k => X7 (ix2 0 k)) (fun k l => X8 (ix2 k l)) (fun k => X9 (ix2 0 k))
          (fun k l => X10 (ix2 k l)) (fun k => X11 (ix2 0 k)) n := by
  unfold denseBlk at_
  rw [View.canon_cons_unit_lit _ _ [] (by decide), View.ld_unit_lit (Val := Elt Ideal) (e := .f32) _ X1 (by decide), View.ld_unit_lit (Val := Elt Ideal) (e := .f32) _ X2 (by decide), View.ld_unit_lit (Val := Elt Ideal) (e := .i32) _ X3 (by decide),
    View.ld_unit_lit (Val := Elt Ideal) (e := .f32) _ X4 (by decide), View.ld_unit_lit (Val := Elt Ideal) (e := .f32) _ X5 (by decide), View.ld_unit_lit (Val := Elt Ideal) (e := .bf16) _ X6 (by decide), View.ld_unit_lit (Val := Elt Ideal) (e := .f32) _ X7 (by decide),
    View.ld_unit_lit (Val := Elt Ideal) (e := .f32) _ X9 (by decide), View.ld_unit_lit (Val := Elt Ideal) (e := .bf16) _ X10 (by decide), View.ld_unit_lit (Val := Elt Ideal) (e := .f32) _ X11 (by decide), View.ld_unit_lit (Val := Elt Ideal) (e := .bf16) _ X12 (by decide)]
  rw [pay1_apply]
  simp only [pay3_apply, pay4_apply, pay2_apply X3 X12 r _ i hi]
  unfold modelRow wide
  congr 1
  funext j
  congr 1
  congr 1
  · congr 1
    · refine Finset.sum_congr rfl fun k _ => ?_
      rw [rows_apply X8 0 _ (by omega)]
      simp only [Nat.zero_add]
    · exact Finset.sum_congr rfl fun k _ => by rw [rows_apply X8 128 _ (by omega)]
  · exact Finset.sum_congr rfl fun k _ => by rw [rows_apply X8 256 _ (by omega)]

/-- Every window's block index: the point along the rows for the four moving windows, the origin for the rest. -/
theorem block_idx : ∀ t : Fin cfg1.N, win1_0.index t = ![t.val, 0] ∧ win1_1.index t = ![t.val, 0] ∧ win1_2.index t = ![t.val, 0]
    ∧ win1_3.index t = ![0, 0] ∧ win1_4.index t = ![0, 0] ∧ win1_5.index t = ![0, 0] ∧ win1_6.index t = ![0, 0]
    ∧ win1_7.index t = ![0, 0] ∧ win1_8.index t = ![0, 0] ∧ win1_9.index t = ![0, 0] ∧ win1_10.index t = ![0, 0]
    ∧ win1_11.index t = ![0, 0] ∧ win1_12.index t = ![t.val, 0] :=
  (by decide +kernel : ∀ t : Fin grid1.N, _)

variable (V : Dev nD → Valuation τ sig (Elt Ideal)) (c : Dev nD) (t : Fin cfg1.N)

/-- The row of the arrays that row `r` of block `t` is. -/
def rowAt (t : Fin cfg1.N) (r : Fin 1024) : Fin 16384 := ⟨t.val * 1024 + r.val, by have : t.val < 16 := t.isLt; omega⟩

theorem opd0_at (r : Fin 1024) (k : Fin 128) :
    opd0 V c t (ix2 r k) = (V c (Proc.devRef .tc main_v1) : S16384x128.Idx → EReal) (ix2 (rowAt t r) k) := by
  blk_ext [opd0, block_idx t, rowAt]
theorem opd1_at (r : Fin 1024) :
    opd1 V c t (ix2 r 0) = (V c (Proc.devRef .tc main_v9) : S16384x1.Idx → EReal) (ix2 (rowAt t r) 0) := by
  blk_ext [opd1, block_idx t, rowAt]
theorem opd2_at (r : Fin 1024) :
    opd2 V c t (ix2 r 0) = (V c (Proc.devRef .tc main_v10) : S16384x1.Idx → BitVec 32) (ix2 (rowAt t r) 0) := by
  blk_ext [opd2, block_idx t, rowAt]
theorem opd3_eq : opd3 V c t = (V c (Proc.devRef .tc main_arg5) : S1x128.Idx → EReal) := by blk_ext! [opd3, block_idx t]
theorem opd4_eq : opd4 V c t = (V c (Proc.devRef .tc main_v11) : S1x128.Idx → EReal) := by blk_ext! [opd4, block_idx t]
theorem opd5_eq : opd5 V c t = (V c (Proc.devRef .tc main_v6) : S128x128.Idx → EReal) := by blk_ext! [opd5, block_idx t]
theorem opd6_eq : opd6 V c t = (V c (Proc.devRef .tc main_v12) : S1x128.Idx → EReal) := by blk_ext! [opd6, block_idx t]
theorem opd7_eq : opd7 V c t = (V c (Proc.devRef .tc main_v7) : S384x512.Idx → EReal) := by blk_ext! [opd7, block_idx t]
theorem opd8_eq : opd8 V c t = (V c (Proc.devRef .tc main_v13) : S1x512.Idx → EReal) := by blk_ext! [opd8, block_idx t]
theorem opd9_eq : opd9 V c t = (V c (Proc.devRef .tc main_v8) : S512x2000.Idx → EReal) := by blk_ext! [opd9, block_idx t]
theorem opd10_eq : opd10 V c t = (V c (Proc.devRef .tc main_v14) : S1x2000.Idx → EReal) := by blk_ext! [opd10, block_idx t]
theorem opd11_eq : opd11 V c t = (V c (Proc.devRef .tc main_v5) : S128x128.Idx → EReal) := by blk_ext! [opd11, block_idx t]

end Cert.Proof
-- ==== Proof.OutArray.lean ====
module

public import proofs.«01_k».proof.Proof.Block

@[expose] public section

set_option maxRecDepth 16384

/-! # The result's array

The sixteen blocks of results, put together: every entry of the array is the model at its row. -/

noncomputable section

namespace Cert.Proof

open Cert.KernelIdeal Cert.KernelIdeal.Gen

open Idealize.ShloMosaic

/-- The dense call's result as a function of its twelve operands' arrays. -/
def denseAt (A0 : S16384x128.Idx → EReal) (A1 : S16384x1.Idx → EReal) (A2 : S16384x1.Idx → BitVec 32)
    (hA : ∀ i : Fin 16384, (A2 (ix2 i 0)).toNat < 128) (A3 A4 : S1x128.Idx → EReal) (A5 : S128x128.Idx → EReal)
    (A6 : S1x128.Idx → EReal) (A7 : S384x512.Idx → EReal) (A8 : S1x512.Idx → EReal) (A9 : S512x2000.Idx → EReal)
    (A10 : S1x2000.Idx → EReal) (A11 : S128x128.Idx → EReal) (i : Fin 16384) (n : Fin 2000) : EReal :=
  modelRow (fun k => A0 (ix2 i k)) (A1 (ix2 i 0)) (fun k => A11 (ix2 ⟨(A2 (ix2 i 0)).toNat, hA i⟩ k)) (fun k => A3 (ix2 0 k))
    (fun k => A4 (ix2 0 k)) (fun k l => A5 (ix2 k l)) (fun k => A6 (ix2 0 k)) (fun k l => A7 (ix2 k l)) (fun k => A8 (ix2 0 k))
    (fun k l => A9 (ix2 k l)) (fun k => A10 (ix2 0 k)) n

variable (V : Dev nD → Valuation τ sig (Elt Ideal)) (c : Dev nD)

/-- The cell indices as the call finds them. -/
abbrev cellsIn : S16384x1.Idx → BitVec 32 := V c (Proc.devRef .tc main_v10)

/-- The result of the call as the valuation's arrays give it. -/
abbrev denseOf (h : ∀ i : Fin 16384, (cellsIn V c (ix2 i 0)).toNat < 128) (i : Fin 16384) (n : Fin 2000) : EReal :=
  denseAt (V c (Proc.devRef .tc main_v1)) (V c (Proc.devRef .tc main_v9)) (cellsIn V c) h (V c (Proc.devRef .tc main_arg5))
    (V c (Proc.devRef .tc main_v11)) (V c (Proc.devRef .tc main_v6)) (V c (Proc.devRef .tc main_v12)) (V c (Proc.devRef .tc main_v7))
    (V c (Proc.devRef .tc main_v13)) (V c (Proc.devRef .tc main_v8)) (V c (Proc.devRef .tc main_v14)) (V c (Proc.devRef .tc main_v5)) i n

/-- An entry of a block of results is the array's at that row. -/
theorem resAt_apply (t : Fin cfg1.N) (h : ∀ i : Fin 16384, (cellsIn V c (ix2 i 0)).toNat < 128) (r : Fin 1024) (n : Fin 2000) :
    resAt V c t (ix2 r n) = denseOf V c h (rowAt t r) n := by
  unfold resAt denseOf denseAt
  rw [opd3_eq, opd4_eq, opd5_eq, opd6_eq, opd7_eq, opd8_eq, opd9_eq, opd10_eq, opd11_eq]
  rw [denseBlk_apply (i := ⟨(cellsIn V c (ix2 (rowAt t r) 0)).toNat, h _⟩) (hi := by rw [opd2_at])]
  rw [opd1_at]
  simp only [opd0_at]

/-- The array the call leaves. -/
theorem out_array (h : ∀ i : Fin 16384, (cellsIn V c (ix2 i 0)).toNat < 128) :
    (dat V c).arrAt 12 cfg1.N = (fun j : S16384x2000.Idx => denseOf V c h (j 0) (j 1)) := by
  refine (dat V c).arrAt_eq_of_covers 12 _ (by decide +kernel) fun t hf y => ?_
  blk_simp
  rw [after12]
  refine (congrArg (resAt V c t) (eq_ix2 (n0 := 1024) (n1 := 2000) y)).trans ((resAt_apply V c t h (y 0) (y 1)).trans ?_)
  refine congrArg₂ (fun i n => denseOf V c h i n) (Fin.ext ?_) (Fin.ext ?_)
  · blk_simp [block_idx t, rowAt]
  · blk_simp [block_idx t]

end Cert.Proof
-- ==== Proof.HostVals.lean ====
module

public import proofs.«01_k».proof.Proof.Frames
public import Idealize.ShloMosaic.Lib.Routing.OpsSet

@[expose] public section

set_option maxRecDepth 16384

/-! # What the dense call's operands hold

Each operand of the dense call as the host's operations before it leave it, as a function of the arguments. -/

noncomputable section

namespace Cert.Proof

open Cert.KernelIdeal Cert.KernelIdeal.Gen

open Idealize.ShloMosaic
open Idealize.ShloMosaic.TcCoe

section Reads
variable {F : FTy → Type} [FloatOps F]
variable (m : (ℓ : Loc nD τ sig) → Buf (Elt F) ℓ) (d : Dev nD)

/-- A buffer neither the first reshape nor the gather writes. -/
theorem pastGather_other {r : Ref sig .tc} (h1 : r ≠ main_v1) (h0 : r ≠ main_v0) :
    pastGather m d (Proc.devRef .tc r) = m ((SparseCore.T d).loc r) := by
  unfold pastGather
  rw [Function.update_of_ne (StableHlo.devRef_ne_of_ne h1)]
  unfold atGather
  exact StableHlo.reshape_result_ne _ _ _ _ _ _ _ h0

theorem rows_val : atDense m d (Proc.devRef .tc main_v1) = gOut (m ((SparseCore.T d).loc main_arg3)) (rowOf m d) := by
  unfold atDense prepOps
  after_results_simp
  unfold pastGather
  rw [Function.update_self]
  congr 1

theorem doses_val : atDense m d (Proc.devRef .tc main_v9) = shapeCast S16384x1 (m ((SparseCore.T d).loc main_arg1)) shapeCasts_S16384_S16384x1 := by
  unfold atDense prepOps
  after_results_simp
  rw [pastGather_other m d (by decide) (by decide)]
  rfl

theorem cells_val : atDense m d (Proc.devRef .tc main_v10) = shapeCast S16384x1 (m ((SparseCore.T d).loc main_arg2)) shapeCasts_S16384_S16384x1 := by
  unfold atDense prepOps
  after_results_simp
  rw [pastGather_other m d (by decide) (by decide)]
  rfl

theorem bd1_val : atDense m d (Proc.devRef .tc main_v11) = shapeCast S1x128 (m ((SparseCore.T d).loc main_arg6)) shapeCasts_S128_S1x128 := by
  unfold atDense prepOps
  after_results_simp
  rw [pastGather_other m d (by decide) (by decide)]
  rfl

theorem bd2_val : atDense m d (Proc.devRef .tc main_v12) = shapeCast S1x128 (m ((SparseCore.T d).loc main_arg8)) shapeCasts_S128_S1x128 := by
  unfold atDense prepOps
  after_results_simp
  rw [pastGather_other m d (by decide) (by decide)]
  rfl

theorem b1_val : atDense m d (Proc.devRef .tc main_v13) = shapeCast S1x512 (m ((SparseCore.T d).loc main_arg10)) shapeCasts_S512_S1x512 := by
  unfold atDense prepOps
  after_results_simp
  rw [pastGather_other m d (by decide) (by decide)]
  rfl

theorem b2_val : atDense m d (Proc.devRef .tc main_v14) = shapeCast S1x2000 (m ((SparseCore.T d).loc main_arg12)) shapeCasts_S2000_S1x2000 := by
  unfold atDense prepOps
  after_results_simp
  rw [pastGather_other m d (by decide) (by decide)]
  rfl

theorem wd2_val : atDense m d (Proc.devRef .tc main_v6) = truncf .bf16 (m ((SparseCore.T d).loc main_arg7) : FVec F S128x128 .f32) bitsLt_bf16_f32 := by
  unfold atDense prepOps
  after_results_simp
  rw [pastGather_other m d (by decide) (by decide)]

theorem w1_val : atDense m d (Proc.devRef .tc main_v7) = truncf .bf16 (m ((SparseCore.T d).loc main_arg9) : FVec F S384x512 .f32) bitsLt_bf16_f32 := by
  unfold atDense prepOps
  after_results_simp
  rw [pastGather_other m d (by decide) (by decide)]

theorem w2_val : atDense m d (Proc.devRef .tc main_v8) = truncf .bf16 (m ((SparseCore.T d).loc main_arg11) : FVec F S512x2000 .f32) bitsLt_bf16_f32 := by
  unfold atDense prepOps
  after_results_simp
  rw [pastGather_other m d (by decide) (by decide)]

theorem tab_val : atDense m d (Proc.devRef .tc main_v5)
    = Host.scatter scatter_S128x128_S1_S100x128_01_n_0_0 (fun _ b => b) (broadcastInDim S128x128 ![] bcast_S_S128x128 (constant S_ .bf16 0#16))
        (broadcastInDim S1 ![] bcast_S_S1 (constantI S_ 32 0#32)) (truncf .bf16 (m ((SparseCore.T d).loc main_arg4) : FVec F S100x128 .f32) bitsLt_bf16_f32) := by
  unfold atDense prepOps
  after_results_simp
  rw [pastGather_other m d (by decide) (by decide)]

end Reads

/-- Where row `k 0` of the cell table lands in the padded table: at the same row and column. -/
theorem lands (k : S100x128.Idx) (i : S128x128.Idx) :
    scatter_S128x128_S1_S100x128_01_n_0_0.resultIdx? k (broadcastInDim S1 ![] bcast_S_S1 (constantI S_ 32 0#32)) = some i
      ↔ (k 0).val = (i 0).val ∧ (k 1).val = (i 1).val := by
  have hs : ∀ a, scatter_S128x128_S1_S100x128_01_n_0_0.start k (broadcastInDim S1 ![] bcast_S_S1 (constantI S_ 32 0#32)) a = 0 := by
    intro a
    unfold ScatterDims.start
    split
    · rfl
    · rfl
  have h0 : scatter_S128x128_S1_S100x128_01_n_0_0.window k 0 = (k 0).val := rfl
  have h1 : scatter_S128x128_S1_S100x128_01_n_0_0.window k 1 = (k 1).val := rfl
  rw [Routing.resultIdx?_eq_some]
  constructor
  · intro h
    have e0 := h 0
    have e1 := h 1
    rw [hs, h0] at e0
    rw [hs, h1] at e1
    omega
  · rintro ⟨e0, e1⟩ a
    rw [hs]
    match a with
    | ⟨0, _⟩ => exact (congrArg (fun n : Nat => (0 : Int) + n) (h0.trans e0)).trans (Int.zero_add _)
    | ⟨1, _⟩ => exact (congrArg (fun n : Nat => (0 : Int) + n) (h1.trans e1)).trans (Int.zero_add _)

/-- The padded table at a row of the cell table. -/
theorem padded_apply {α : Type} (x : S128x128.Idx → α) (u : S100x128.Idx → α) (k : S100x128.Idx) (i : S128x128.Idx)
    (h : (k 0).val = (i 0).val ∧ (k 1).val = (i 1).val) :
    Host.scatter scatter_S128x128_S1_S100x128_01_n_0_0 (fun _ b => b) x (broadcastInDim S1 ![] bcast_S_S1 (constantI S_ 32 0#32)) u i = u k := by
  refine Routing.scatter_set_hit _ x _ u i (u k) (fun l hl => ?_) k ((lands k i).2 h)
  obtain ⟨e0, e1⟩ := (lands l i).1 hl
  refine congrArg u (funext fun a => Fin.ext ?_)
  match a with
  | ⟨0, _⟩ => exact e0.trans h.1.symm
  | ⟨1, _⟩ => exact e1.trans h.2.symm

end Cert.Proof
-- ==== Proof.Model.lean ====
module

public import proofs.«01_k».proof.Proof.Formula
public import proofs.«01_k».proof.Proof.Frames

@[expose] public section

set_option maxRecDepth 16384

/-! # The model over the arguments

The result both programs leave, entry by entry, as a function of the thirteen arguments whose indices are in range. -/

noncomputable section

namespace Cert.Proof

open Cert.KernelIdeal Cert.KernelIdeal.Gen

open Idealize.ShloMosaic

/-- The model at row `i` and gene `n`. -/
def model (a0 a2 : S16384.Idx → BitVec 32) (h : IndicesOK a0 a2) (a1 : S16384.Idx → EReal) (a3 : S1000000x128.Idx → EReal)
    (a4 : S100x128.Idx → EReal) (a5 : S1x128.Idx → EReal) (a6 : S128.Idx → EReal) (a7 : S128x128.Idx → EReal) (a8 : S128.Idx → EReal)
    (a9 : S384x512.Idx → EReal) (a10 : S512.Idx → EReal) (a11 : S512x2000.Idx → EReal) (a12 : S2000.Idx → EReal)
    (i : Fin 16384) (n : Fin 2000) : EReal :=
  modelRow (fun k => a3 (ix2 ⟨(a0 (ix1 i)).toNat, (h _).1⟩ k)) (a1 (ix1 i)) (fun k => a4 (ix2 ⟨(a2 (ix1 i)).toNat, (h _).2⟩ k))
    (fun k => a5 (ix2 0 k)) (fun k => a6 (ix1 k)) (fun k l => a7 (ix2 k l)) (fun k => a8 (ix1 k)) (fun k l => a9 (ix2 k l))
    (fun k => a10 (ix1 k)) (fun k l => a11 (ix2 k l)) (fun k => a12 (ix1 k)) n

end Cert.Proof
-- ==== Proof.KernelValue.lean ====
module

public import proofs.«01_k».proof.Proof.OutArray
public import proofs.«01_k».proof.Proof.HostVals
public import proofs.«01_k».proof.Proof.Model

@[expose] public section

set_option maxRecDepth 16384

/-! # What the kernel leaves

The kernel's result, read at an entry: the model over the arguments. -/

noncomputable section

namespace Cert.Proof

open Cert.KernelIdeal Cert.KernelIdeal.Gen

open Idealize.ShloMosaic
open Idealize.ShloMosaic.TcCoe

variable (m : (ℓ : Loc nD τ sig) → Buf (Elt Ideal) ℓ) (d : Dev nD)

/-- The contents of an argument's buffer at the launch. -/
abbrev arg (r : Ref sig .tc) : Buf (Elt Ideal) ((SparseCore.T d : Thread nD τ).loc r) := m ((SparseCore.T d).loc r)

/-- The gathered row `i`, at column `k`. -/
theorem gathered_apply (h : IndicesOK (arg m d main_arg0) (arg m d main_arg2)) (i : Fin 16384) (k : Fin 128) :
    (atDense m d (Proc.devRef .tc main_v1) : S16384x128.Idx → EReal) (ix2 i k)
      = (arg m d main_arg3 : S1000000x128.Idx → EReal) (ix2 ⟨((arg m d main_arg0 : S16384.Idx → BitVec 32) (ix1 i)).toNat, (h _).1⟩ k) := by
  rw [rows_val, rowOf_eq]
  have e : shapeCast S1x16384 (arg m d main_arg0 : S16384.Idx → BitVec 32) shapeCasts_S16384_S1x16384 (ix2 0 i)
      = (arg m d main_arg0 : S16384.Idx → BitVec 32) (ix1 i) := by
    refine (shapeCast_addUnit_apply ![16384] _ _ _).trans (congrArg _ (funext fun a => Fin.ext ?_))
    match a with | ⟨0, _⟩ => rfl
  have hi : iIdx i = ix2 0 i := funext fun a => Fin.ext (by match a with | ⟨0, _⟩ => rfl | ⟨1, _⟩ => rfl)
  have ht : ∀ w : BitVec 32, (hw : w.toNat < 1000000) → tIdx w.toNat k = ix2 ⟨w.toNat, hw⟩ k := fun w hw =>
    funext fun a => Fin.ext (by match a with | ⟨0, _⟩ => exact Nat.min_eq_left (by omega) | ⟨1, _⟩ => rfl)
  refine congrArg (arg m d main_arg3) ?_
  refine Eq.trans ?_ (ht _ (h (ix1 i)).1)
  refine congrArg (fun w : BitVec 32 => tIdx w.toNat k) ?_
  exact (congrArg _ hi).trans e

theorem cells_apply (i : Fin 16384) :
    cellsIn (atDense m) d (ix2 i 0) = (arg m d main_arg2 : S16384.Idx → BitVec 32) (ix1 i) := by
  unfold cellsIn
  rw [cells_val]
  pointwise

/-- The padded table at an in-range row. -/
theorem table_apply (i : Fin 100) (j : Fin 128) (e : j.val = i.val) (k : Fin 128) :
    (atDense m d (Proc.devRef .tc main_v5) : S128x128.Idx → EReal) (ix2 j k) = (arg m d main_arg4 : S100x128.Idx → EReal) (ix2 i k) := by
  rw [tab_val]
  exact padded_apply _ _ (ix2 i k) (ix2 j k) ⟨e.symm, rfl⟩

theorem kernel_apply (h : IndicesOK (arg m d main_arg0) (arg m d main_arg2)) (hc : ∀ i : Fin 16384, (cellsIn (atDense m) d (ix2 i 0)).toNat < 128)
    (i : Fin 16384) (n : Fin 2000) :
    denseOf (atDense m) d hc i n
      = model (arg m d main_arg0) (arg m d main_arg2) h (arg m d main_arg1) (arg m d main_arg3) (arg m d main_arg4) (arg m d main_arg5)
          (arg m d main_arg6) (arg m d main_arg7) (arg m d main_arg8) (arg m d main_arg9) (arg m d main_arg10) (arg m d main_arg11)
          (arg m d main_arg12) i n := by
  unfold denseOf denseAt model
  simp only [gathered_apply m d h]
  have e1 : (atDense m d (Proc.devRef .tc main_v9) : S16384x1.Idx → EReal) (ix2 i 0) = (arg m d main_arg1 : S16384.Idx → EReal) (ix1 i) := by
    rw [doses_val]; pointwise
  have e4 : ∀ k : Fin 128, (atDense m d (Proc.devRef .tc main_v11) : S1x128.Idx → EReal) (ix2 0 k) = (arg m d main_arg6 : S128.Idx → EReal) (ix1 k) := fun k => by
    rw [bd1_val]; pointwise
  have e6 : ∀ k : Fin 128, (atDense m d (Proc.devRef .tc main_v12) : S1x128.Idx → EReal) (ix2 0 k) = (arg m d main_arg8 : S128.Idx → EReal) (ix1 k) := fun k => by
    rw [bd2_val]; pointwise
  have e8 : ∀ k : Fin 512, (atDense m d (Proc.devRef .tc main_v13) : S1x512.Idx → EReal) (ix2 0 k) = (arg m d main_arg10 : S512.Idx → EReal) (ix1 k) := fun k => by
    rw [b1_val]; pointwise
  have e10 : ∀ k : Fin 2000, (atDense m d (Proc.devRef .tc main_v14) : S1x2000.Idx → EReal) (ix2 0 k) = (arg m d main_arg12 : S2000.Idx → EReal) (ix1 k) := fun k => by
    rw [b2_val]; pointwise
  have e3 : (atDense m d (Proc.devRef .tc main_arg5) : S1x128.Idx → EReal) = arg m d main_arg5 := atDense_other m d (by decide)
  have e5 : (atDense m d (Proc.devRef .tc main_v6) : S128x128.Idx → EReal) = arg m d main_arg7 := wd2_val m d
  have e7 : (atDense m d (Proc.devRef .tc main_v7) : S384x512.Idx → EReal) = arg m d main_arg9 := w1_val m d
  have e9 : (atDense m d (Proc.devRef .tc main_v8) : S512x2000.Idx → EReal) = arg m d main_arg11 := w2_val m d
  have e2 : ∀ k : Fin 128, (atDense m d (Proc.devRef .tc main_v5) : S128x128.Idx → EReal) (ix2 ⟨(cellsIn (atDense m) d (ix2 i 0)).toNat, hc i⟩ k)
      = (arg m d main_arg4 : S100x128.Idx → EReal) (ix2 ⟨((arg m d main_arg2 : S16384.Idx → BitVec 32) (ix1 i)).toNat, (h _).2⟩ k) := fun k =>
    table_apply m d _ _ (congrArg BitVec.toNat (cells_apply m d i)) k
  simp only [e1, e2, e3, e4, e5, e6, e7, e8, e9, e10]

end Cert.Proof
-- ==== Proof.RefLayers.lean ====
module

public import proofs.«01_k».proof.Proof.Gen.ReferenceIdeal.Run
public import Idealize.ShloMosaic.Lib.Pointwise

@[expose] public section

set_option maxRecDepth 16384

/-! # The reference, layer by layer

The reference's composed term over its arguments, in the pieces the model has: the two table reads, the dose's
embedding, the wide layer, the result. -/

noncomputable section

namespace Cert.Proof.Ref

open Cert.ReferenceIdeal Cert.ReferenceIdeal.Gen

open Idealize.ShloMosaic
open Idealize.ShloMosaic.TcCoe

/-- The indices as a take reads them, a negative one counted from the end, one to a row. -/
def wrapped (a : IVec S16384 32) (n : BitVec 32) : IVec S16384x1 32 :=
  broadcastInDim S16384x1 ![0] bcast_S16384_S16384x1_0 (select (cmpi .slt a (broadcastInDim S16384 ![] bcast_S_S16384 (constantI S_ 32 0#32)))
    (addi a (broadcastInDim S16384 ![] bcast_S_S16384 (constantI S_ 32 n))) a)

/-- Which of them lie in the table. -/
def inside (a : IVec S16384 32) (n l : BitVec 32) : IVec S16384 1 :=
  Host.reduce IntOp.andi (andi (cmpi .sge (wrapped a n) (broadcastInDim S16384x1 ![] bcast_S_S16384x1 (constantI S_ 32 0#32)))
    (cmpi .sle (wrapped a n) (broadcastInDim S16384x1 ![0, 1] bcast_S1x1_S16384x1_0_1 (broadcastInDim S1x1 ![1] bcast_S1_S1x1_1 (constantI S1 32 l)))))
    (constantI S_ 1 1#1) reducesTo_S16384x1_S16384_d1 h_S_

/-- The table's rows at the indices. -/
def takeRows {s : Shape} (g : GatherDims s S16384x1 S16384x128) (tab : FVec Ideal s .f32) (a : IVec S16384 32) (n l : BitVec 32) : FVec Ideal S16384x128 .f32 :=
  select (broadcastInDim S16384x128 ![0] bcast_S16384_S16384x128_0 (inside a n l)) (Host.gather g tab (wrapped a n))
    (broadcastInDim S16384x128 ![] bcast_S_S16384x128 (constant S_ .f32 0x7FC00000#32))

/-- The dose's hidden layer before its activation. -/
def doseIn (a1 : FVec Ideal S16384 .f32) (a5 : FVec Ideal S1x128 .f32) (a6 : FVec Ideal S128 .f32) : FVec Ideal S16384x128 .f32 :=
  addf (Host.dotGeneral dot_S16384x1_S1x128_S16384x128_1_0_0_1_n_n none (shapeCast S16384x1 a1 shapeCasts_S16384_S16384x1) a5)
    (broadcastInDim S16384x128 ![0, 1] bcast_S1x128_S16384x128_0_1 (broadcastInDim S1x128 ![1] bcast_S128_S1x128_1 a6))

/-- The dose's embedding. -/
def dose (u : FVec Ideal S16384x128 .f32) (a7 : FVec Ideal S128x128 .f32) (a8 : FVec Ideal S128 .f32) : FVec Ideal S16384x128 .f32 :=
  addf (Host.dotGeneral dot_S16384x128_S128x128_S16384x128_1_0_0_1_n_n none
      (mulf u (Host.divf (broadcastInDim S16384x128 ![] bcast_S_S16384x128 (constant S_ .f32 0x3F800000#32))
        (addf (broadcastInDim S16384x128 ![] bcast_S_S16384x128 (constant S_ .f32 0x3F800000#32)) (Host.exp (Host.negf u))))) a7)
    (broadcastInDim S16384x128 ![0, 1] bcast_S1x128_S16384x128_0_1 (broadcastInDim S1x128 ![1] bcast_S128_S1x128_1 a8))

/-- The wide layer before its activation. -/
def wideIn (g h c : FVec Ideal S16384x128 .f32) (a9 : FVec Ideal S384x512 .f32) (a10 : FVec Ideal S512 .f32) : FVec Ideal S16384x512 .f32 :=
  addf (Host.dotGeneral dot_S16384x384_S384x512_S16384x512_1_0_0_1_n_n none
      (concatenate S16384x384 1 [⟨S16384x128, g⟩, ⟨S16384x128, h⟩, ⟨S16384x128, c⟩] concatenates_S16384x128_S16384x128_S16384x128_S16384x384_d1) a9)
    (broadcastInDim S16384x512 ![0, 1] bcast_S1x512_S16384x512_0_1 (broadcastInDim S1x512 ![1] bcast_S512_S1x512_1 a10))

/-- The result. -/
def last (z : FVec Ideal S16384x512 .f32) (a11 : FVec Ideal S512x2000 .f32) (a12 : FVec Ideal S2000 .f32) : FVec Ideal S16384x2000 .f32 :=
  addf (Host.dotGeneral dot_S16384x512_S512x2000_S16384x2000_1_0_0_1_n_n none
      (mulf z (Host.divf (broadcastInDim S16384x512 ![] bcast_S_S16384x512 (constant S_ .f32 0x3F800000#32))
        (addf (broadcastInDim S16384x512 ![] bcast_S_S16384x512 (constant S_ .f32 0x3F800000#32)) (Host.exp (Host.negf z))))) a11)
    (broadcastInDim S16384x2000 ![0, 1] bcast_S1x2000_S16384x2000_0_1 (broadcastInDim S1x2000 ![1] bcast_S2000_S1x2000_1 a12))

/-- The reference over its arguments. -/
def whole (a0 : IVec S16384 32) (a1 : FVec Ideal S16384 .f32) (a2 : IVec S16384 32) (a3 : FVec Ideal S1000000x128 .f32) (a4 : FVec Ideal S100x128 .f32)
    (a5 : FVec Ideal S1x128 .f32) (a6 : FVec Ideal S128 .f32) (a7 : FVec Ideal S128x128 .f32) (a8 : FVec Ideal S128 .f32) (a9 : FVec Ideal S384x512 .f32)
    (a10 : FVec Ideal S512 .f32) (a11 : FVec Ideal S512x2000 .f32) (a12 : FVec Ideal S2000 .f32) : FVec Ideal S16384x2000 .f32 :=
  last (wideIn (takeRows gather_S1000000x128_S16384x1_S16384x128_1_0_n_n_0_1_1128 a3 a0 1000000#32 999999#32) (dose (doseIn a1 a5 a6) a7 a8)
    (takeRows gather_S100x128_S16384x1_S16384x128_1_0_n_n_0_1_1128 a4 a2 100#32 99#32) a9 a10) a11 a12

theorem res_eq (m : (ℓ : Loc nD τ sig) → Buf (Elt Ideal) ℓ) (c : Dev nD) :
    Cert.ReferenceIdeal.Value.res_main_v33 m c
      = whole (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) (m ((c.tc : Thread nD τ).loc main_arg8))
          (m ((c.tc : Thread nD τ).loc main_arg9)) (m ((c.tc : Thread nD τ).loc main_arg10)) (m ((c.tc : Thread nD τ).loc main_arg11))
          (m ((c.tc : Thread nD τ).loc main_arg12)) := by
  unfold Cert.ReferenceIdeal.Value.res_main_v33
  rfl

end Cert.Proof.Ref
-- ==== Proof.RefTake.lean ====
module

public import proofs.«01_k».proof.Proof.RefLayers
public import proofs.«01_k».proof.Proof.Model
public import Idealize.ShloMosaic.Lib.Routing.OpsSet
public import Idealize.ShloMosaic.Lib.ReduceAll
public import Idealize.ShloMosaic.Lib.Pointwise.IndexBridge

@[expose] public section

set_option maxRecDepth 16384

/-! # The reference's table reads

With its indices in range a take is the table's row: no index is wrapped, every one lies inside. -/

noncomputable section

namespace Cert.Proof.Ref

open Cert.ReferenceIdeal Cert.ReferenceIdeal.Gen

open Idealize.ShloMosaic

/-- A word below the sign bit is not negative. -/
theorem not_neg (x : BitVec 32) (h : x.toNat < 2147483648) : IntOp.cmpi .slt x 0#32 = 0#1 := by
  have e : BitVec.slt x 0#32 = false := by
    rw [BitVec.slt_eq_decide, decide_eq_false_iff_not, BitVec.toInt_eq_toNat_cond, BitVec.toInt_eq_toNat_cond]
    simp only [BitVec.toNat_ofNat]
    split_ifs <;> omega
  simp [IntOp.cmpi, e]

/-- A word below the sign bit is at least zero. -/
theorem nonneg (x : BitVec 32) (h : x.toNat < 2147483648) : IntOp.cmpi .sge x 0#32 = 1#1 := by
  have e : BitVec.sle 0#32 x = true := by
    rw [BitVec.sle_eq_decide, decide_eq_true_eq, BitVec.toInt_eq_toNat_cond, BitVec.toInt_eq_toNat_cond]
    simp only [BitVec.toNat_ofNat]
    split_ifs <;> omega
  simp [IntOp.cmpi, e]

/-- Two words below the sign bit compare as their values. -/
theorem le_last (x l : BitVec 32) (h : x.toNat ≤ l.toNat) (hl : l.toNat < 2147483648) : IntOp.cmpi .sle x l = 1#1 := by
  have e : BitVec.sle x l = true := by
    rw [BitVec.sle_eq_decide, decide_eq_true_eq, BitVec.toInt_eq_toNat_cond, BitVec.toInt_eq_toNat_cond]
    split_ifs <;> omega
  simp [IntOp.cmpi, e]

variable (a : IVec S16384 32) (n l : BitVec 32) (ha : ∀ j, (a j).toNat ≤ l.toNat) (hl : l.toNat < 2147483648)
include ha hl

theorem wrapped_apply (i : Fin 16384) (u : Fin 1) : wrapped a n (ix2 i u) = a (ix1 i) := by
  pointwise [wrapped]
  rw [not_neg _ (lt_of_le_of_lt (ha _) hl)]
  rfl

theorem inside_apply (i : Fin 16384) : inside a n l (ix1 i) = 1#1 := by
  unfold inside
  refine Host.reduce_andi_one _ _ _ _ _ rfl fun j => ?_
  have e := wrapped_apply a n l ha hl (j 0) (j 1)
  rw [show (ix2 (j 0) (j 1) : S16384x1.Idx) = j from (eq_ix2 (n0 := 16384) (n1 := 1) j).symm] at e
  change IntOp.andi (IntOp.cmpi .sge (wrapped a n j) 0#32) (IntOp.cmpi .sle (wrapped a n j) l) = 1#1
  rw [e, nonneg _ (lt_of_le_of_lt (ha _) hl), le_last _ _ (ha _) hl]
  rfl

theorem takeRows_apply {N : ℕ} (g : GatherDims (⟨2, ![N, 128]⟩ : Shape) S16384x1 S16384x128) (tab : FVec Ideal (⟨2, ![N, 128]⟩ : Shape) .f32)
    (hoff : g.offsetDims = [1]) (hcoll : g.collapsedSliceDims = [0]) (hob : g.operandBatchingDims = [])
    (hsim : g.startIndexMap = [0]) (hivd : g.indexVectorDim = 1) (hN : N < 2 ^ 31)
    (i : Fin 16384) (k : Fin 128) (h : (a (ix1 i)).toNat < N) :
    takeRows g tab a n l (ix2 i k) = tab (ix2 ⟨(a (ix1 i)).toNat, h⟩ k) := by
  have e : takeRows g tab a n l (ix2 i k) = Host.gather g tab (wrapped a n) (ix2 i k) := by
    pointwise [takeRows]
    rw [inside_apply a n l ha hl i]
    rfl
  rw [e]
  refine Routing.gather_row g hoff hcoll hob hsim hivd tab (wrapped a n) i k ⟨_, h⟩ ?_ hN
  refine (wrapped_apply a n l ha hl i 0).trans ?_
  rw [BitVec.ofNat_toNat, BitVec.setWidth_eq]

end Cert.Proof.Ref
-- ==== Proof.RefValue.lean ====
module

public import proofs.«01_k».proof.Proof.RefTake

@[expose] public section

set_option maxRecDepth 16384

/-! # The reference is the model

Each layer of the reference at an entry, and the reference over in-range indices: the model. -/

noncomputable section

namespace Cert.Proof.Ref

open Cert.ReferenceIdeal Cert.ReferenceIdeal.Gen

open Idealize.ShloMosaic

theorem doseIn_apply (a1 : S16384.Idx → EReal) (a5 : S1x128.Idx → EReal) (a6 : S128.Idx → EReal) (i : Fin 16384) (k : Fin 128) :
    doseIn a1 a5 a6 (ix2 i k) = a1 (ix1 i) * a5 (ix2 0 k) + a6 (ix1 k) := by
  pointwise [doseIn]
  rw [Fin.sum_univ_one]

theorem dose_apply (u : S16384x128.Idx → EReal) (a7 : S128x128.Idx → EReal) (a8 : S128.Idx → EReal) (i : Fin 16384) (j : Fin 128) :
    dose u a7 a8 (ix2 i j) = (∑ k, sil (u (ix2 i k)) * a7 (ix2 k j)) + a8 (ix1 j) := by
  pointwise [dose, sil]
  rfl

/-- A sum over the concatenation's columns, by its three parts. -/
theorem sum_three (f : Fin 384 → EReal) :
    ∑ x, f x = (∑ k : Fin 128, f ⟨k, by omega⟩) + (∑ k : Fin 128, f ⟨128 + k, by omega⟩) + ∑ k : Fin 128, f ⟨256 + k, by omega⟩ :=
  (Fin.sum_univ_add (a := 256) (b := 128) f).trans (congrArg (· + ∑ k : Fin 128, f ⟨256 + k, by omega⟩)
    (Fin.sum_univ_add (a := 128) (b := 128) fun k : Fin 256 => f ⟨k, by omega⟩))

theorem wideIn_apply (g h c : S16384x128.Idx → EReal) (a9 : S384x512.Idx → EReal) (a10 : S512.Idx → EReal) (i : Fin 16384) (j : Fin 512) :
    wideIn g h c a9 a10 (ix2 i j)
      = wide (fun k => g (ix2 i k)) (fun k => h (ix2 i k)) (fun k => c (ix2 i k)) (fun k l => a9 (ix2 k l)) (fun k => a10 (ix1 k)) j := by
  pointwise [wideIn, wide]
  rw [sum_three]
  congr 1

theorem last_apply (z : S16384x512.Idx → EReal) (a11 : S512x2000.Idx → EReal) (a12 : S2000.Idx → EReal) (i : Fin 16384) (n : Fin 2000) :
    last z a11 a12 (ix2 i n) = outRow (fun j => z (ix2 i j)) (fun k l => a11 (ix2 k l)) (fun k => a12 (ix1 k)) n := by
  pointwise [last, outRow, sil]
  rfl

/-- The reference, its indices in range, at an entry. -/
theorem whole_apply (a0 a2 : S16384.Idx → BitVec 32) (h : IndicesOK a0 a2) (a1 : S16384.Idx → EReal) (a3 : S1000000x128.Idx → EReal)
    (a4 : S100x128.Idx → EReal) (a5 : S1x128.Idx → EReal) (a6 : S128.Idx → EReal) (a7 : S128x128.Idx → EReal) (a8 : S128.Idx → EReal)
    (a9 : S384x512.Idx → EReal) (a10 : S512.Idx → EReal) (a11 : S512x2000.Idx → EReal) (a12 : S2000.Idx → EReal)
    (i : Fin 16384) (n : Fin 2000) :
    whole a0 a1 a2 a3 a4 a5 a6 a7 a8 a9 a10 a11 a12 (ix2 i n) = model a0 a2 h a1 a3 a4 a5 a6 a7 a8 a9 a10 a11 a12 i n := by
  unfold whole
  rw [last_apply]
  simp only [wideIn_apply, dose_apply, doseIn_apply]
  have eg : ∀ k, takeRows gather_S1000000x128_S16384x1_S16384x128_1_0_n_n_0_1_1128 a3 a0 1000000#32 999999#32 (ix2 i k)
      = a3 (ix2 ⟨(a0 (ix1 i)).toNat, (h _).1⟩ k) := fun k =>
    takeRows_apply a0 1000000#32 999999#32 (fun j => Nat.le_of_lt_succ (h j).1) (by decide) _ a3 rfl rfl rfl rfl rfl (by decide) i k (h _).1
  have ec : ∀ k, takeRows gather_S100x128_S16384x1_S16384x128_1_0_n_n_0_1_1128 a4 a2 100#32 99#32 (ix2 i k)
      = a4 (ix2 ⟨(a2 (ix1 i)).toNat, (h _).2⟩ k) := fun k =>
    takeRows_apply a2 100#32 99#32 (fun j => Nat.le_of_lt_succ (h j).2) (by decide) _ a4 rfl rfl rfl rfl rfl (by decide) i k (h _).2
  simp only [eg, ec]
  unfold model modelRow doseEmb
  rfl

end Cert.Proof.Ref
-- ==== Proof.Algebraic.lean ====
module

public import proofs.«01_k».proof.Proof.KernelValue
public import proofs.«01_k».proof.Proof.RefValue

@[expose] public section

set_option maxRecDepth 16384

/-! # The kernel and the reference leave the same result

At the exact reading of the floats, from memories that agree on the arguments and whose indices are in range. -/

noncomputable section

namespace Cert.Proof

open Idealize.ShloMosaic
open Idealize.ShloMosaic.TcCoe
open Idealize.SL.Sem

section Result
open Cert.KernelIdeal Cert.KernelIdeal.Gen

variable (m : (ℓ : Loc nD τ sig) → Buf (Elt Ideal) ℓ) (d : Dev nD)

/-- The kernel's result at the run's end: the reference's term over the kernel's arguments. -/
theorem result_eq (h : IndicesOK (arg m d main_arg0) (arg m d main_arg2)) :
    atEnd m d (Proc.devRef .tc main_v15)
      = Ref.whole (arg m d main_arg0) (arg m d main_arg1) (arg m d main_arg2) (arg m d main_arg3) (arg m d main_arg4) (arg m d main_arg5)
          (arg m d main_arg6) (arg m d main_arg7) (arg m d main_arg8) (arg m d main_arg9) (arg m d main_arg10) (arg m d main_arg11)
          (arg m d main_arg12) := by
  have hc : ∀ i : Fin 16384, (cellsIn (atDense m) d (ix2 i 0)).toNat < 128 := fun i => by
    rw [cells_apply]
    exact lt_trans (h _).2 (by decide)
  unfold atEnd afterDense
  refine (Pipeline.afterRegion_arr (dat (atDense m) d) (atDense m d) launch1.win.arr_inj 12).trans ?_
  rw [out_array (atDense m) d hc]
  funext j
  refine (kernel_apply m d h hc (j 0) (j 1)).trans ?_
  refine (Ref.whole_apply _ _ h _ _ _ _ _ _ _ _ _ _ _ (j 0) (j 1)).symm.trans ?_
  exact congrArg _ (eq_ix2 (n0 := 16384) (n1 := 2000) j).symm

theorem result_uc : Proc.devRef .tc main_v15 ∈ Pipeline.ucRefs τ sig := by decide

end Result

/-- The two programs leave the same result. -/
theorem algebraic : Cert.algebraic_KernelIdeal_ReferenceIdeal := by
  intro m g m' g' hp hag
  have h : ∀ d, IndicesOK (arg m d Cert.KernelIdeal.main_arg0) (arg m d Cert.KernelIdeal.main_arg2) := fun d => indices_of_pre (hp d)
  refine ⟨fun c => atEnd m c (Proc.devRef .tc Cert.KernelIdeal.main_v15), ?_, ?_⟩
  · exact (θ_run (Cert.KernelIdeal.defs (F := Ideal)) _ _).mono (fun r hr c => ⟨hr.1 c _ result_uc, args_end m hr c⟩)
      (run_main m g (rows_inRange m h))
  · refine (θ_run (Cert.ReferenceIdeal.defs (F := Ideal)) _ _).mono (fun r hr c => ⟨(hr c).1.trans ?_, (hr c).2⟩)
      (Cert.ReferenceIdeal.Value.run (F := Ideal) m' g')
    obtain ⟨e0, e1, e2, e3, e4, e5, e6, e7, e8, e9, e10, e11, e12⟩ := hag c
    rw [Ref.res_eq m' c, e0, e1, e2, e3, e4, e5, e6, e7, e8, e9, e10, e11, e12]
    exact (result_eq m c (h c)).symm

end Cert.Proof
-- ==== Proof.lean ====
/- The claims. `Run` is the program's run, stated once at any reading of the floats; the two frames are that run with the values
   dropped (`Frames`, `FrameBits`), and the reference's frame is its own run (`Reference`). `Algebraic` reads the run's result at an
   entry (`KernelValue`), the reference's likewise (`RefValue`), and finds the same formula (`Model`). -/
module

public import proofs.«01_k».proof.Defs
public import proofs.«01_k».proof.Proof.FrameBits
public import proofs.«01_k».proof.Proof.Reference
public import proofs.«01_k».proof.Proof.Algebraic

@[expose] public section

noncomputable section

namespace Cert.Proof

open Idealize.ShloMosaic Idealize.SL.Sem

theorem claim : Cert.Claim := ⟨Cert.Kernel.Gen.facts, Cert.KernelIdeal.Gen.facts, Cert.ReferenceIdeal.Gen.facts, inferInstance,
  frame_kernel, frame_kernelIdeal, frame_reference, frame_reference_pre, trivial, algebraic⟩

end Cert.Proof

end
